-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal_on_state_rows [hKernelIdeal : Cert.KernelIdeal.Facts] [hReferenceIdeal : Cert.ReferenceIdeal.Facts] [hOn_state_rows : Cert.On_state_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 2048, 1024]⟩ : Shape).Idx, (Cert.On_state_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v0_0) i = v0 c i)
          ∧ (∀ i : (⟨3, ![4, 2048, 1024]⟩ : Shape).Idx, (Cert.On_state_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v0_1) i = v1 c i)
          ∧ (∀ i : (⟨4, ![4, 2, 8, 512]⟩ : Shape).Idx, (Cert.On_state_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v0_2) i = v2 c i)
          ∧ (∀ i : (⟨4, ![4, 2, 8, 512]⟩ : Shape).Idx, (Cert.On_state_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 2048, 1024]⟩ : Shape).Idx, (Cert.On_state_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v18) i = v0 c i)
          ∧ (∀ i : (⟨3, ![4, 2048, 1024]⟩ : Shape).Idx, (Cert.On_state_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v21) i = v1 c i)
          ∧ (∀ i : (⟨4, ![4, 2, 8, 512]⟩ : Shape).Idx, (Cert.On_state_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v23) i = v2 c i)
          ∧ (∀ i : (⟨4, ![4, 2, 8, 512]⟩ : Shape).Idx, (Cert.On_state_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.ReferenceIdeal.nD Cert.ReferenceIdeal.τ).loc Cert.ReferenceIdeal.main_v25) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v82) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v30_0)) (v1 : (c : Dev Cert.Kernel9Ideal.nD) → Buf (Elt Ideal) ((c.tc : Thread Cert.Kernel9Ideal.nD Cert.Kernel9Ideal.τ).loc Cert.Kernel9Ideal.main_v30_1)) (v2 : (c : Dev Cert.Kernel9Ideal.nD) → Buf (Elt Ideal) ((c.tc : Thread Cert.Kernel9Ideal.nD Cert.Kernel9Ideal.τ).loc Cert.Kernel9Ideal.main_v30_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v30_0) = v0 c
          ∧ r.2.mem ((c.tc : Thread Cert.Kernel9Ideal.nD Cert.Kernel9Ideal.τ).loc Cert.Kernel9Ideal.main_v30_1) = v1 c
          ∧ r.2.mem ((c.tc : Thread Cert.Kernel9Ideal.nD Cert.Kernel9Ideal.τ).loc Cert.Kernel9Ideal.main_v30_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v63) = v0 c
          ∧ r.2.mem ((c.tc : Thread Cert.Reference9Ideal.nD Cert.Reference9Ideal.τ).loc Cert.Reference9Ideal.main_v65) = v1 c
          ∧ r.2.mem ((c.tc : Thread Cert.Reference9Ideal.nD Cert.Reference9Ideal.τ).loc Cert.Reference9Ideal.main_v70) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hOn_state_rows : Cert.On_state_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_on_state_rows (hKernelIdeal := hKernelIdeal) (hReferenceIdeal := hReferenceIdeal) (hOn_state_rows := hOn_state_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== On_state_rows.lean ====
abbrev S4x2048x1024 : Shape := ⟨3, ![4, 2048, 1024]⟩
abbrev S4x2x1024x512 : Shape := ⟨4, ![4, 2, 1024, 512]⟩
abbrev S4x2x1x512 : Shape := ⟨4, ![4, 2, 1, 512]⟩
abbrev S4x2x8x512 : Shape := ⟨4, ![4, 2, 8, 512]⟩
abbrev S_ : Shape := ⟨0, ![]⟩

class Facts : Prop where
  bcast_S_S4x2048x1024 : S_.BroadcastsInDim S4x2048x1024 (![] : Fin 0 → Fin S4x2048x1024.rank)
  bcast_S_S4x2x8x512 : S_.BroadcastsInDim S4x2x8x512 (![] : Fin 0 → Fin S4x2x8x512.rank)

variable [Facts]

def fn {F : FTy → Type} [FloatOps F] (main_arg0 : FVec F S4x2048x1024 .bf16) (main_arg1 : FVec F S4x2x1024x512 .bf16) (main_arg2 : FVec F S4x2x1024x512 .bf16) (main_arg3 : FVec F S4x2x1x512 .f32) (main_arg4 : FVec F S4x2x1x512 .f32) (main_arg5 : FVec F S4x2x8x512 .f32) (main_arg6 : FVec F S4x2x8x512 .f32) : IVec S4x2048x1024 1 × IVec S4x2048x1024 1 × IVec S4x2x8x512 1 × IVec S4x2x8x512 1 :=
  let main_c : IVec S_ 1 := constantI S_ 1 1#1
  let main_v0 : IVec S4x2048x1024 1 := broadcastInDim S4x2048x1024 ![] bcast_S_S4x2048x1024 main_c
  let main_v1 : IVec S4x2x8x512 32 := iotaInDim S4x2x8x512 32 2
  let main_c_0 : IVec S_ 32 := constantI S_ 32 4#32
  let main_v2 : IVec S4x2x8x512 32 := broadcastInDim S4x2x8x512 ![] bcast_S_S4x2x8x512 main_c_0
  let main_v3 : IVec S4x2x8x512 1 := cmpi .slt main_v1 main_v2
  (main_v0, main_v0, main_v3, main_v3)
-- ==== Kernel.lean ====
abbrev S4x2048x1024 : Shape := ⟨3, ![4, 2048, 1024]⟩
abbrev S4x2x1024x512 : Shape := ⟨4, ![4, 2, 1024, 512]⟩
abbrev S4x2x1x512 : Shape := ⟨4, ![4, 2, 1, 512]⟩
abbrev S4x2x8x512 : Shape := ⟨4, ![4, 2, 8, 512]⟩
abbrev S1x2048x1024 : Shape := ⟨3, ![1, 2048, 1024]⟩
abbrev S1x1x1024x512 : Shape := ⟨4, ![1, 1, 1024, 512]⟩
abbrev S1x1x1x512 : Shape := ⟨4, ![1, 1, 1, 512]⟩
abbrev S1x1x8x512 : Shape := ⟨4, ![1, 1, 8, 512]⟩
abbrev S1x2048x512 : Shape := ⟨3, ![1, 2048, 512]⟩
abbrev S1x256x1024 : Shape := ⟨3, ![1, 256, 1024]⟩
abbrev S256x1024 : Shape := ⟨2, ![256, 1024]⟩
abbrev S1024x512 : Shape := ⟨2, ![1024, 512]⟩
abbrev S256x512 : Shape := ⟨2, ![256, 512]⟩
abbrev S1x256x512 : Shape := ⟨3, ![1, 256, 512]⟩
abbrev S1x512 : Shape := ⟨2, ![1, 512]⟩
abbrev S8x512 : Shape := ⟨2, ![8, 512]⟩
abbrev S1x8x512 : Shape := ⟨3, ![1, 8, 512]⟩
abbrev S1x256 : Shape := ⟨2, ![1, 256]⟩
abbrev S8x256 : Shape := ⟨2, ![8, 256]⟩

abbrev nBuf : Space → Nat
  | .hbm => 11
  | .vmem => 22
  | .smem => 0
  | _ => 0

abbrev bufTy : (tb : Table) → Fin (tcTables nBuf tb) → BufTy
  | .hbm, ⟨0, _⟩ => ⟨S4x2048x1024, .bf16⟩
  | .hbm, ⟨1, _⟩ => ⟨S4x2x1024x512, .bf16⟩
  | .hbm, ⟨2, _⟩ => ⟨S4x2x1024x512, .bf16⟩
  | .hbm, ⟨3, _⟩ => ⟨S4x2x1x512, .f32⟩
  | .hbm, ⟨4, _⟩ => ⟨S4x2x1x512, .f32⟩
  | .hbm, ⟨5, _⟩ => ⟨S4x2x8x512, .f32⟩
  | .hbm, ⟨6, _⟩ => ⟨S4x2x8x512, .f32⟩
  | .hbm, ⟨7, _⟩ => ⟨S4x2048x1024, .f32⟩
  | .hbm, ⟨8, _⟩ => ⟨S4x2048x1024, .f32⟩
  | .hbm, ⟨9, _⟩ => ⟨S4x2x8x512, .f32⟩
  | .hbm, ⟨10, _⟩ => ⟨S4x2x8x512, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S1x1x8x512, .f32⟩
  | .local _ .vmem, ⟨11, _⟩ => ⟨S1x1x8x512, .f32⟩
  | .local _ .vmem, ⟨12, _⟩ => ⟨S1x1x8x512, .f32⟩
  | .local _ .vmem, ⟨13, _⟩ => ⟨S1x1x8x512, .f32⟩
  | .local _ .vmem, ⟨14, _⟩ => ⟨S1x2048x512, .f32⟩
  | .local _ .vmem, ⟨15, _⟩ => ⟨S1x2048x512, .f32⟩
  | .local _ .vmem, ⟨16, _⟩ => ⟨S1x2048x512, .f32⟩
  | .local _ .vmem, ⟨17, _⟩ => ⟨S1x2048x512, .f32⟩
  | .local _ .vmem, ⟨18, _⟩ => ⟨S1x1x8x512, .f32⟩
  | .local _ .vmem, ⟨19, _⟩ => ⟨S1x1x8x512, .f32⟩
  | .local _ .vmem, ⟨20, _⟩ => ⟨S1x1x8x512, .f32⟩
  | .local _ .vmem, ⟨21, _⟩ => ⟨S1x1x8x512, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c256_i32 : BitVec 32 := 256#32
  let v124 : BitVec 32 := Scalar.addi c0_i32 c256_i32
  let c1_i32 : BitVec 32 := 1#32
  ⟨c0_i32, v124, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32 : BitVec 32 := 8#32
  let v133 : BitVec 32 := Scalar.muli arg13 c8_i32
  v133
def k0_off1 (k0_t1 : Fin k0_t1_loop.trips) : Fin 3 → Nat :=
  let c0_170 : Index := 0#32
  let c0_i32 : BitVec 32 := 0#32
  let c1_i32 : BitVec 32 := 1#32
  let arg13 : BitVec 32 := Scf.iv c0_i32 c1_i32 k0_t1
  let c8_i32 : BitVec 32 := 8#32
  let v133 : BitVec 32 := Scalar.muli arg13 c8_i32
  let v134 : BitVec 32 := v133
  let v135 : Index := Scalar.indexCast v134
  let c0_171 : Index := 0#32
  ![0, v135.toNat, 0]
def k0_mult2 (k0_t1 : Fin k0_t1_loop.trips) : BitVec 32 :=
  let c255_i32 : BitVec 32 := 255#32
  let c0_i32 : BitVec 32 := 0#32
  let c1_i32 : BitVec 32 := 1#32
  let arg13 : BitVec 32 := Scf.iv c0_i32 c1_i32 k0_t1
  let v176 : BitVec 32 := Scalar.subi c255_i32 arg13
  let c8_i32_175 : BitVec 32 := 8#32
  let v177 : BitVec 32 := Scalar.muli v176 c8_i32_175
  v177
def k0_off2 (k0_t1 : Fin k0_t1_loop.trips) : Fin 3 → Nat :=
  let c0_176 : Index := 0#32
  let c255_i32 : BitVec 32 := 255#32
  let c0_i32 : BitVec 32 := 0#32
  let c1_i32 : BitVec 32 := 1#32
  let arg13 : BitVec 32 := Scf.iv c0_i32 c1_i32 k0_t1
  let v176 : BitVec 32 := Scalar.subi c255_i32 arg13
  let c8_i32_175 : BitVec 32 := 8#32
  let v177 : BitVec 32 := Scalar.muli v176 c8_i32_175
  let v178 : BitVec 32 := v177
  let v179 : Index := Scalar.indexCast v178
  let c0_177 : Index := 0#32
  ![0, v179.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x2048x1024 : Shape := ⟨3, ![4, 2048, 1024]⟩
abbrev S4x2x1024x512 : Shape := ⟨4, ![4, 2, 1024, 512]⟩
abbrev S4x2x1x512 : Shape := ⟨4, ![4, 2, 1, 512]⟩
abbrev S4x2x8x512 : Shape := ⟨4, ![4, 2, 8, 512]⟩
abbrev S4x2x4x512 : Shape := ⟨4, ![4, 2, 4, 512]⟩
abbrev S4x2x512x2048 : Shape := ⟨4, ![4, 2, 512, 2048]⟩
abbrev S4x2x2048x512 : Shape := ⟨4, ![4, 2, 2048, 512]⟩
abbrev S4x2x512x4x512 : Shape := ⟨5, ![4, 2, 512, 4, 512]⟩
abbrev S512x4x2x4x512 : Shape := ⟨5, ![512, 4, 2, 4, 512]⟩
abbrev S_ : Shape := ⟨0, ![]⟩
abbrev S1x4x2x4x512 : Shape := ⟨5, ![1, 4, 2, 4, 512]⟩
abbrev S4x2x1x256 : Shape := ⟨4, ![4, 2, 1, 256]⟩
abbrev S4x2x4x256 : Shape := ⟨4, ![4, 2, 4, 256]⟩
abbrev S4x512x4x2x512 : Shape := ⟨5, ![4, 512, 4, 2, 512]⟩

abbrev nBuf : Space → Nat
  | .hbm => 106
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2x1024x512, .bf16⟩
  | .hbm, ⟨2, _⟩ => ⟨S4x2x1024x512, .bf16⟩
  | .hbm, ⟨3, _⟩ => ⟨S4x2x1x512, .f32⟩
  | .hbm, ⟨4, _⟩ => ⟨S4x2x1x512, .f32⟩
  | .hbm, ⟨5, _⟩ => ⟨S4x2x8x512, .f32⟩
  | .hbm, ⟨6, _⟩ => ⟨S4x2x8x512, .f32⟩
  | .hbm, ⟨7, _⟩ => ⟨S4x2048x1024, .f32⟩
  | .hbm, ⟨8, _⟩ => ⟨S4x2x4x512, .f32⟩
  | .hbm, ⟨9, _⟩ => ⟨S4x2x4x512, .f32⟩
  | .hbm, ⟨10, _⟩ => ⟨S4x2x1024x512, .f32⟩
  | .hbm, ⟨11, _⟩ => ⟨S4x2x512x2048, .f32⟩
  | .hbm, ⟨12, _⟩ => ⟨S4x2x2048x512, .f32⟩
  | .hbm, ⟨13, _⟩ => ⟨S4x2x512x4x512, .f32⟩
  | .hbm, ⟨14, _⟩ => ⟨S512x4x2x4x512, .f32⟩
  | .hbm, ⟨15, _⟩ => ⟨S4x2x1024x512, .f32⟩
  | .hbm, ⟨16, _⟩ => ⟨S4x2x512x2048, .f32⟩
  | .hbm, ⟨17, _⟩ => ⟨S4x2x2048x512, .f32⟩
  | .hbm, ⟨18, _⟩ => ⟨S4x2x512x4x512, .f32⟩
  | .hbm, ⟨19, _⟩ => ⟨S512x4x2x4x512, .f32⟩
  | .hbm, ⟨20, _⟩ => ⟨S512x4x2x4x512, .f32⟩
  | .hbm, ⟨21, _⟩ => ⟨S_, .f32⟩
  | .hbm, ⟨22, _⟩ => ⟨S512x4x2x4x512, .f32⟩
  | .hbm, ⟨23, _⟩ => ⟨S_, .f32⟩
  | .hbm, ⟨24, _⟩ => ⟨S512x4x2x4x512, .f32⟩
  | .hbm, ⟨25, _⟩ => ⟨S_, .i32⟩
  | .hbm, ⟨26, _⟩ => ⟨S512x4x2x4x512, .f32⟩
  | .hbm, ⟨27, _⟩ => ⟨S512x4x2x4x512, .f32⟩
  | .hbm, ⟨28, _⟩ => ⟨S4x2x1x512, .f32⟩
  | .hbm, ⟨29, _⟩ => ⟨S4x2x1x512, .f32⟩
  | .hbm, ⟨30, _⟩ => ⟨S_, .i32⟩
  | .hbm, ⟨31, _⟩ => ⟨S4x2x4x512, .f32⟩
  | .hbm, ⟨32, _⟩ => ⟨S4x2x4x512, .f32⟩
  | .hbm, ⟨33, _⟩ => ⟨S512x4x2x4x512, .f32⟩
  | .hbm, ⟨34, _⟩ => ⟨S512x4x2x4x512, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x4x2x4x512, .f32⟩
  | .hbm, ⟨42, _⟩ => ⟨S4x2x4x512, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x4x2x4x512, .f32⟩
  | .hbm, ⟨48, _⟩ => ⟨S4x2x4x512, .f32⟩
  | .hbm, ⟨49, _⟩ => ⟨S4x2x1x256, .f32⟩
  | .hbm, ⟨50, _⟩ => ⟨S4x2x1x256, .f32⟩
  | .hbm, ⟨51, _⟩ => ⟨S4x2x4x256, .f32⟩
  | .hbm, ⟨52, _⟩ => ⟨S4x2x4x256, .f32⟩
  | .hbm, ⟨53, _⟩ => ⟨S4x2x4x256, .f32⟩
  | .hbm, ⟨54, _⟩ => ⟨S4x2x4x256, .f32⟩
  | .hbm, ⟨55, _⟩ => ⟨S4x2x4x256, .f32⟩
  | .hbm, ⟨56, _⟩ => ⟨S4x2x4x256, .f32⟩
  | .hbm, ⟨57, _⟩ => ⟨S4x2x4x256, .f32⟩
  | .hbm, ⟨58, _⟩ => ⟨S4x2x4x256, .f32⟩
  | .hbm, ⟨59, _⟩ => ⟨S4x2x4x256, .f32⟩
  | .hbm, ⟨60, _⟩ => ⟨S4x2x4x256, .f32⟩
  | .hbm, ⟨61, _⟩ => ⟨S4x2x4x256, .f32⟩
  | .hbm, ⟨62, _⟩ => ⟨S4x2x4x256, .f32⟩
  | .hbm, ⟨63, _⟩ => ⟨S4x2x4x512, .f32⟩
  | .hbm, ⟨64, _⟩ => ⟨S4x2x4x512, .f32⟩
  | .hbm, ⟨65, _⟩ => ⟨S4x2x1x256, .f32⟩
  | .hbm, ⟨66, _⟩ => ⟨S4x2x1x256, .f32⟩
  | .hbm, ⟨67, _⟩ => ⟨S4x2x4x256, .f32⟩
  | .hbm, ⟨68, _⟩ => ⟨S4x2x4x256, .f32⟩
  | .hbm, ⟨69, _⟩ => ⟨S4x2x4x256, .f32⟩
  | .hbm, ⟨70, _⟩ => ⟨S4x2x4x256, .f32⟩
  | .hbm, ⟨71, _⟩ => ⟨S4x2x4x256, .f32⟩
  | .hbm, ⟨72, _⟩ => ⟨S4x2x4x256, .f32⟩
  | .hbm, ⟨73, _⟩ => ⟨S4x2x4x256, .f32⟩
  | .hbm, ⟨74, _⟩ => ⟨S4x2x4x256, .f32⟩
  | .hbm, ⟨75, _⟩ => ⟨S4x2x4x256, .f32⟩
  | .hbm, ⟨76, _⟩ => ⟨S4x2x4x256, .f32⟩
  | .hbm, ⟨77, _⟩ => ⟨S4x2x4x256, .f32⟩
  | .hbm, ⟨78, _⟩ => ⟨S4x2x4x256, .f32⟩
  | .hbm, ⟨79, _⟩ => ⟨S4x2x4x512, .f32⟩
  | .hbm, ⟨80, _⟩ => ⟨S4x2x4x512, .f32⟩
  | .hbm, ⟨81, _⟩ => ⟨S1x4x2x4x512, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S512x4x2x4x512, .f32⟩
  | .hbm, ⟨87, _⟩ => ⟨S1x4x2x4x512, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S512x4x2x4x512, .f32⟩
  | .hbm, ⟨93, _⟩ => ⟨S_, .i32⟩
  | .hbm, ⟨94, _⟩ => ⟨S_, .i32⟩
  | .hbm, ⟨95, _⟩ => ⟨S4x512x4x2x512, .f32⟩
  | .hbm, ⟨96, _⟩ => ⟨S4x2048x1024, .f32⟩
  | .hbm, ⟨97, _⟩ => ⟨S512x4x2x4x512, .f32⟩
  | .hbm, ⟨98, _⟩ => ⟨S4x512x4x2x512, .f32⟩
  | .hbm, ⟨99, _⟩ => ⟨S4x2048x1024, .f32⟩
  | .hbm, ⟨100, _⟩ => ⟨S_, .f32⟩
  | .hbm, ⟨101, _⟩ => ⟨S4x2x4x512, .f32⟩
  | .hbm, ⟨102, _⟩ => ⟨S4x2x8x512, .f32⟩
  | .hbm, ⟨103, _⟩ => ⟨S_, .f32⟩
  | .hbm, ⟨104, _⟩ => ⟨S4x2x4x512, .f32⟩
  | .hbm, ⟨105, _⟩ => ⟨S4x2x8x512, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_c : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev main_v16_7 : Ref sig .tc := ⟨.hbm, 33, rfl⟩
abbrev main_v16_8 : Ref sig .tc := ⟨.hbm, 34, rfl⟩
abbrev main_while0c_c_11 : Ref sig .tc := ⟨.hbm, 35, rfl⟩
abbrev main_while0c_v26 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_c_1 : Ref sig .tc := ⟨.hbm, 39, rfl⟩
abbrev main_while0b_call1_c_2 : Ref sig .tc := ⟨.hbm, 40, rfl⟩
abbrev main_while0b_call1_v0 : Ref sig .tc := ⟨.hbm, 41, rfl⟩
abbrev main_while0b_v26 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_c_1 : Ref sig .tc := ⟨.hbm, 45, rfl⟩
abbrev main_while0b_call2_c_2 : Ref sig .tc := ⟨.hbm, 46, rfl⟩
abbrev main_while0b_call2_v0 : Ref sig .tc := ⟨.hbm, 47, rfl⟩
abbrev main_while0b_v27 : Ref sig .tc := ⟨.hbm, 48, rfl⟩
abbrev main_while0b_v28 : Ref sig .tc := ⟨.hbm, 49, rfl⟩
abbrev main_while0b_v29 : Ref sig .tc := ⟨.hbm, 50, rfl⟩
abbrev main_while0b_v30 : Ref sig .tc := ⟨.hbm, 51, rfl⟩
abbrev main_while0b_v31 : Ref sig .tc := ⟨.hbm, 52, rfl⟩
abbrev main_while0b_v32 : Ref sig .tc := ⟨.hbm, 53, rfl⟩
abbrev main_while0b_v33 : Ref sig .tc := ⟨.hbm, 54, rfl⟩
abbrev main_while0b_v34 : Ref sig .tc := ⟨.hbm, 55, rfl⟩
abbrev main_while0b_v35 : Ref sig .tc := ⟨.hbm, 56, rfl⟩
abbrev main_while0b_v36 : Ref sig .tc := ⟨.hbm, 57, rfl⟩
abbrev main_while0b_v37 : Ref sig .tc := ⟨.hbm, 58, rfl⟩
abbrev main_while0b_v38 : Ref sig .tc := ⟨.hbm, 59, rfl⟩
abbrev main_while0b_v39 : Ref sig .tc := ⟨.hbm, 60, rfl⟩
abbrev main_while0b_v40 : Ref sig .tc := ⟨.hbm, 61, rfl⟩
abbrev main_while0b_v41 : Ref sig .tc := ⟨.hbm, 62, rfl⟩
abbrev main_while0b_v42 : Ref sig .tc := ⟨.hbm, 63, rfl⟩
abbrev main_while0b_v43 : Ref sig .tc := ⟨.hbm, 64, rfl⟩
abbrev main_while0b_v44 : Ref sig .tc := ⟨.hbm, 65, rfl⟩
abbrev main_while0b_v45 : Ref sig .tc := ⟨.hbm, 66, rfl⟩
abbrev main_while0b_v46 : Ref sig .tc := ⟨.hbm, 67, rfl⟩
abbrev main_while0b_v47 : Ref sig .tc := ⟨.hbm, 68, rfl⟩
abbrev main_while0b_v48 : Ref sig .tc := ⟨.hbm, 69, rfl⟩
abbrev main_while0b_v49 : Ref sig .tc := ⟨.hbm, 70, rfl⟩
abbrev main_while0b_v50 : Ref sig .tc := ⟨.hbm, 71, rfl⟩
abbrev main_while0b_v51 : Ref sig .tc := ⟨.hbm, 72, rfl⟩
abbrev main_while0b_v52 : Ref sig .tc := ⟨.hbm, 73, rfl⟩
abbrev main_while0b_v53 : Ref sig .tc := ⟨.hbm, 74, rfl⟩
abbrev main_while0b_v54 : Ref sig .tc := ⟨.hbm, 75, rfl⟩
abbrev main_while0b_v55 : Ref sig .tc := ⟨.hbm, 76, rfl⟩
abbrev main_while0b_v56 : Ref sig .tc := ⟨.hbm, 77, rfl⟩
abbrev main_while0b_v57 : Ref sig .tc := ⟨.hbm, 78, rfl⟩
abbrev main_while0b_v58 : Ref sig .tc := ⟨.hbm, 79, rfl⟩
abbrev main_while0b_v59 : Ref sig .tc := ⟨.hbm, 80, rfl⟩
abbrev main_while0b_call3_v0 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_c_1 : Ref sig .tc := ⟨.hbm, 84, rfl⟩
abbrev main_while0b_call3_c_2 : Ref sig .tc := ⟨.hbm, 85, rfl⟩
abbrev main_while0b_v60 : Ref sig .tc := ⟨.hbm, 86, rfl⟩
abbrev main_while0b_call4_v0 : Ref sig .tc := ⟨.hbm, 87, rfl⟩
abbrev main_while0b_call4_c : Ref sig .tc := ⟨.hbm, 88, rfl⟩
abbrev main_while0b_call4_c_0 : Ref sig .tc := ⟨.hbm, 89, rfl⟩
abbrev main_while0b_call4_c_1 : Ref sig .tc := ⟨.hbm, 90, rfl⟩
abbrev main_while0b_call4_c_2 : Ref sig .tc := ⟨.hbm, 91, rfl⟩
abbrev main_while0b_v61 : Ref sig .tc := ⟨.hbm, 92, rfl⟩
abbrev main_while0b_c_11 : Ref sig .tc := ⟨.hbm, 93, rfl⟩
abbrev main_while0b_v62 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_cst_1 : Ref sig .tc := ⟨.hbm, 100, rfl⟩
abbrev main_v22 : Ref sig .tc := ⟨.hbm, 101, rfl⟩
abbrev main_v23 : Ref sig .tc := ⟨.hbm, 102, rfl⟩
abbrev main_cst_2 : Ref sig .tc := ⟨.hbm, 103, rfl⟩
abbrev main_v24 : Ref sig .tc := ⟨.hbm, 104, rfl⟩
abbrev main_v25 : Ref sig .tc := ⟨.hbm, 105, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S4x4096x1024 : Shape := ⟨3, ![4, 4096, 1024]⟩
abbrev S1024 : Shape := ⟨1, ![1024]⟩
abbrev S8x1x6144 : Shape := ⟨3, ![8, 1, 6144]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩

abbrev nBuf : Space → Nat
  | .hbm => 9
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S8x1x6144, .f32⟩
  | .hbm, ⟨3, _⟩ => ⟨S1024x4096, .bf16⟩
  | .hbm, ⟨4, _⟩ => ⟨S4096x1024, .bf16⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .bf16⟩
  | .local _ .vmem, ⟨17, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![arg0.toNat, c0_i32.toNat, c4_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference2Ideal.lean ====
abbrev S4x4096x1024 : Shape := ⟨3, ![4, 4096, 1024]⟩
abbrev S1024 : Shape := ⟨1, ![1024]⟩
abbrev S8x1x6144 : Shape := ⟨3, ![8, 1, 6144]⟩
abbrev S1024x4096 : Shape := ⟨2, ![1024, 4096]⟩
abbrev S4096x1024 : Shape := ⟨2, ![4096, 1024]⟩
abbrev S4x1x3072 : Shape := ⟨3, ![4, 1, 3072]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S8x1x6144, .f32⟩
  | .hbm, ⟨3, _⟩ => ⟨S1024x4096, .bf16⟩
  | .hbm, ⟨4, _⟩ => ⟨S4096x1024, .bf16⟩
  | .hbm, ⟨5, _⟩ => ⟨S1024, .f32⟩
  | .hbm, ⟨6, _⟩ => ⟨S4x1x3072, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S1024x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1, .f32⟩
  | .hbm, ⟨55, _⟩ => ⟨S4x4096x1024, .f32⟩
  | .hbm, ⟨56, _⟩ => ⟨S4x4096x1024, .f32⟩
  | .hbm, ⟨57, _⟩ => ⟨S1x1x1024, .f32⟩
  | .hbm, ⟨58, _⟩ => ⟨S4x4096x1024, .f32⟩
  | .hbm, ⟨59, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S8x1x6144 : Shape := ⟨3, ![8, 1, 6144]⟩
abbrev S1024x6656 : Shape := ⟨2, ![1024, 6656]⟩
abbrev S1x1024 : Shape := ⟨2, ![1, 1024]⟩
abbrev S4x4096x6656 : Shape := ⟨3, ![4, 4096, 6656]⟩
abbrev S1x1024x1024 : Shape := ⟨3, ![1, 1024, 1024]⟩
abbrev S1x1x1024 : Shape := ⟨3, ![1, 1, 1024]⟩
abbrev S1024x1664 : Shape := ⟨2, ![1024, 1664]⟩
abbrev S1x1024x1664 : Shape := ⟨3, ![1, 1024, 1664]⟩
abbrev S1024x1024 : Shape := ⟨2, ![1024, 1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S8x1x6144, .f32⟩
  | .hbm, ⟨3, _⟩ => ⟨S1024x6656, .bf16⟩
  | .hbm, ⟨4, _⟩ => ⟨S1x1024, .f32⟩
  | .hbm, ⟨5, _⟩ => ⟨S4x4096x6656, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1664, .bf16⟩
  | .local _ .vmem, ⟨8, _⟩ => ⟨S1024x1664, .bf16⟩
  | .local _ .vmem, ⟨9, _⟩ => ⟨S1x1024x1664, .f32⟩
  | .local _ .vmem, ⟨10, _⟩ => ⟨S1x1024x1664, .f32⟩
  | .local _ .vmem, ⟨11, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1664 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S4x4096x1024 : Shape := ⟨3, ![4, 4096, 1024]⟩
abbrev S1024 : Shape := ⟨1, ![1024]⟩
abbrev S8x1x6144 : Shape := ⟨3, ![8, 1, 6144]⟩
abbrev S1024x6656 : Shape := ⟨2, ![1024, 6656]⟩
abbrev S4x1x2048 : Shape := ⟨3, ![4, 1, 2048]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6656 : Shape := ⟨3, ![4, 4096, 6656]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S8x1x6144, .f32⟩
  | .hbm, ⟨3, _⟩ => ⟨S1024x6656, .bf16⟩
  | .hbm, ⟨4, _⟩ => ⟨S4x1x2048, .f32⟩
  | .hbm, ⟨5, _⟩ => ⟨S4x1x1024, .f32⟩
  | .hbm, ⟨6, _⟩ => ⟨S4x1x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S1024x6656, .f32⟩
  | .hbm, ⟨31, _⟩ => ⟨S4x4096x6656, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096x6656 : Shape := ⟨3, ![4, 4096, 6656]⟩
abbrev S4x4096x512 : Shape := ⟨3, ![4, 4096, 512]⟩
abbrev S4x16x512x256 : Shape := ⟨4, ![4, 16, 512, 256]⟩
abbrev S8x1x6144 : Shape := ⟨3, ![8, 1, 6144]⟩
abbrev S512x2048 : Shape := ⟨2, ![512, 2048]⟩
abbrev S3x512 : Shape := ⟨2, ![3, 512]⟩
abbrev S512x1024 : Shape := ⟨2, ![512, 1024]⟩
abbrev S1024x1024 : Shape := ⟨2, ![1024, 1024]⟩
abbrev S1x256x1024 : Shape := ⟨3, ![1, 256, 1024]⟩
abbrev S1x256x512 : Shape := ⟨3, ![1, 256, 512]⟩
abbrev S1x1x512x256 : Shape := ⟨4, ![1, 1, 512, 256]⟩
abbrev S1x8x512 : Shape := ⟨3, ![1, 8, 512]⟩
abbrev S1x1x1024 : Shape := ⟨3, ![1, 1, 1024]⟩
abbrev S256x512 : Shape := ⟨2, ![256, 512]⟩
abbrev S256x2048 : Shape := ⟨2, ![256, 2048]⟩
abbrev S256x1024 : Shape := ⟨2, ![256, 1024]⟩
abbrev S1x1x512 : Shape := ⟨3, ![1, 1, 512]⟩
abbrev S1x512 : Shape := ⟨2, ![1, 512]⟩
abbrev S512x256 : Shape := ⟨2, ![512, 256]⟩
abbrev S1x1024 : Shape := ⟨2, ![1, 1024]⟩

abbrev nBuf : Space → Nat
  | .hbm => 12
  | .vmem => 43
  | .smem => 0
  | _ => 0

abbrev bufTy : (tb : Table) → Fin (tcTables nBuf tb) → BufTy
  | .hbm, ⟨0, _⟩ => ⟨S4x4096x1024, .f32⟩
  | .hbm, ⟨1, _⟩ => ⟨S4x4096x6656, .f32⟩
  | .hbm, ⟨2, _⟩ => ⟨S4x4096x512, .f32⟩
  | .hbm, ⟨3, _⟩ => ⟨S4x16x512x256, .f32⟩
  | .hbm, ⟨4, _⟩ => ⟨S4x4096x512, .f32⟩
  | .hbm, ⟨5, _⟩ => ⟨S8x1x6144, .f32⟩
  | .hbm, ⟨6, _⟩ => ⟨S512x2048, .bf16⟩
  | .hbm, ⟨7, _⟩ => ⟨S3x512, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x1x512x256, .f32⟩
  | .local _ .vmem, ⟨5, _⟩ => ⟨S1x1x512x256, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x8x512, .f32⟩
  | .local _ .vmem, ⟨11, _⟩ => ⟨S1x8x512, .f32⟩
  | .local _ .vmem, ⟨12, _⟩ => ⟨S1x8x512, .f32⟩
  | .local _ .vmem, ⟨13, _⟩ => ⟨S1x8x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x8x512, .f32⟩
  | .local _ .vmem, ⟨19, _⟩ => ⟨S1x8x512, .f32⟩
  | .local _ .vmem, ⟨20, _⟩ => ⟨S1x8x512, .f32⟩
  | .local _ .vmem, ⟨21, _⟩ => ⟨S1x8x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x512, .f32⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | .local _ .vmem, ⟨32, _⟩ => ⟨S1x256x512, .f32⟩
  | .local _ .vmem, ⟨33, _⟩ => ⟨S1x256x512, .f32⟩
  | .local _ .vmem, ⟨34, _⟩ => ⟨S1x1x1024, .f32⟩
  | .local _ .vmem, ⟨35, _⟩ => ⟨S1x1x1024, .f32⟩
  | .local _ .vmem, ⟨36, _⟩ => ⟨S512x2048, .bf16⟩
  | .local _ .vmem, ⟨37, _⟩ => ⟨S3x512, .f32⟩
  | .local _ .vmem, ⟨38, _⟩ => ⟨S512x1024, .bf16⟩
  | .local _ .vmem, ⟨39, _⟩ => ⟨S512x1024, .bf16⟩
  | .local _ .vmem, ⟨40, _⟩ => ⟨S1024x1024, .bf16⟩
  | .local _ .vmem, ⟨41, _⟩ => ⟨S1x256x1024, .f32⟩
  | .local _ .vmem, ⟨42, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg23_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem20_0 : DmaSem sig := 38
abbrev cc0_sem21_0 : DmaSem sig := 39
abbrev cc0_sem22_0 : DmaSem sig := 40
abbrev cc0_sem23_0 : DmaSem sig := 41
abbrev cc0_sem23_1 : DmaSem sig := 42

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![arg0.toNat, v2.toNat, c1_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c3_i32 : BitVec 32 := 3#32
  let c0_i32 : BitVec 32 := 0#32
  ![arg0.toNat, v2.toNat, c3_i32.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_13 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_14 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_15 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_16 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S512x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S3x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S512x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S512x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Reference4Ideal.lean ====
abbrev S4x4096x1024 : Shape := ⟨3, ![4, 4096, 1024]⟩
abbrev S4x4096x6656 : Shape := ⟨3, ![4, 4096, 6656]⟩
abbrev S4x4096x512 : Shape := ⟨3, ![4, 4096, 512]⟩
abbrev S4x16x512x256 : Shape := ⟨4, ![4, 16, 512, 256]⟩
abbrev S8x1x6144 : Shape := ⟨3, ![8, 1, 6144]⟩
abbrev S512x2048 : Shape := ⟨2, ![512, 2048]⟩
abbrev S3x512 : Shape := ⟨2, ![3, 512]⟩
abbrev S512x1024 : Shape := ⟨2, ![512, 1024]⟩
abbrev S1024x1024 : Shape := ⟨2, ![1024, 1024]⟩
abbrev S4x1x1024 : Shape := ⟨3, ![4, 1, 1024]⟩
abbrev S_ : Shape := ⟨0, ![]⟩
abbrev S4x4096x2048 : Shape := ⟨3, ![4, 4096, 2048]⟩
abbrev S4x4096x1536 : Shape := ⟨3, ![4, 4096, 1536]⟩
abbrev S4x4098x512 : Shape := ⟨3, ![4, 4098, 512]⟩
abbrev S1x512 : Shape := ⟨2, ![1, 512]⟩
abbrev S512 : Shape := ⟨1, ![512]⟩
abbrev S1x1x512 : Shape := ⟨3, ![1, 1, 512]⟩
abbrev S4x16x256x512 : Shape := ⟨4, ![4, 16, 256, 512]⟩
abbrev S4x4096x3072 : Shape := ⟨3, ![4, 4096, 3072]⟩
abbrev S4x4096x3x1024 : Shape := ⟨4, ![4, 4096, 3, 1024]⟩
abbrev S4x4096x1x1024 : Shape := ⟨4, ![4, 4096, 1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x6656, .f32⟩
  | .hbm, ⟨2, _⟩ => ⟨S4x4096x512, .f32⟩
  | .hbm, ⟨3, _⟩ => ⟨S4x16x512x256, .f32⟩
  | .hbm, ⟨4, _⟩ => ⟨S4x4096x512, .f32⟩
  | .hbm, ⟨5, _⟩ => ⟨S8x1x6144, .f32⟩
  | .hbm, ⟨6, _⟩ => ⟨S512x2048, .bf16⟩
  | .hbm, ⟨7, _⟩ => ⟨S3x512, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S4x1x1024, .f32⟩
  | .hbm, ⟨12, _⟩ => ⟨S4x4096x512, .f32⟩
  | .hbm, ⟨13, _⟩ => ⟨S4x4096x512, .f32⟩
  | .hbm, ⟨14, _⟩ => ⟨S_, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S_, .f32⟩
  | .hbm, ⟨19, _⟩ => ⟨S4x4096x512, .f32⟩
  | .hbm, ⟨20, _⟩ => ⟨S4x4096x512, .f32⟩
  | .hbm, ⟨21, _⟩ => ⟨S4x4096x512, .f32⟩
  | .hbm, ⟨22, _⟩ => ⟨S_, .f32⟩
  | .hbm, ⟨23, _⟩ => ⟨S4x4096x512, .f32⟩
  | .hbm, ⟨24, _⟩ => ⟨S4x4096x512, .f32⟩
  | .hbm, ⟨25, _⟩ => ⟨S_, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S512x2048, .f32⟩
  | .hbm, ⟨30, _⟩ => ⟨S4x4096x2048, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1536, .f32⟩
  | .hbm, ⟨43, _⟩ => ⟨S4x4096x512, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S_, .i32⟩
  | .hbm, ⟨48, _⟩ => ⟨S_, .f32⟩
  | .hbm, ⟨49, _⟩ => ⟨S4x4098x512, .f32⟩
  | .hbm, ⟨50, _⟩ => ⟨S1x512, .f32⟩
  | .hbm, ⟨51, _⟩ => ⟨S512, .f32⟩
  | .hbm, ⟨52, _⟩ => ⟨S4x4096x512, .f32⟩
  | .hbm, ⟨53, _⟩ => ⟨S1x1x512, .f32⟩
  | .hbm, ⟨54, _⟩ => ⟨S4x4096x512, .f32⟩
  | .hbm, ⟨55, _⟩ => ⟨S4x4096x512, .f32⟩
  | .hbm, ⟨56, _⟩ => ⟨S1x512, .f32⟩
  | .hbm, ⟨57, _⟩ => ⟨S512, .f32⟩
  | .hbm, ⟨58, _⟩ => ⟨S4x4096x512, .f32⟩
  | .hbm, ⟨59, _⟩ => ⟨S1x1x512, .f32⟩
  | .hbm, ⟨60, _⟩ => ⟨S4x4096x512, .f32⟩
  | .hbm, ⟨61, _⟩ => ⟨S4x4096x512, .f32⟩
  | .hbm, ⟨62, _⟩ => ⟨S4x4096x512, .f32⟩
  | .hbm, ⟨63, _⟩ => ⟨S1x512, .f32⟩
  | .hbm, ⟨64, _⟩ => ⟨S512, .f32⟩
  | .hbm, ⟨65, _⟩ => ⟨S4x4096x512, .f32⟩
  | .hbm, ⟨66, _⟩ => ⟨S1x1x512, .f32⟩
  | .hbm, ⟨67, _⟩ => ⟨S4x4096x512, .f32⟩
  | .hbm, ⟨68, _⟩ => ⟨S4x4096x512, .f32⟩
  | .hbm, ⟨69, _⟩ => ⟨S4x4096x512, .f32⟩
  | .hbm, ⟨70, _⟩ => ⟨S4x4096x512, .f32⟩
  | .hbm, ⟨71, _⟩ => ⟨S512x1024, .f32⟩
  | .hbm, ⟨72, _⟩ => ⟨S4x4096x1024, .f32⟩
  | .hbm, ⟨73, _⟩ => ⟨S4x16x256x512, .f32⟩
  | .hbm, ⟨74, _⟩ => ⟨S4x4096x512, .f32⟩
  | .hbm, ⟨75, _⟩ => ⟨S4x4096x512, .f32⟩
  | .hbm, ⟨76, _⟩ => ⟨S512x1024, .f32⟩
  | .hbm, ⟨77, _⟩ => ⟨S4x4096x1024, .f32⟩
  | .hbm, ⟨78, _⟩ => ⟨S4x4096x3072, .f32⟩
  | .hbm, ⟨79, _⟩ => ⟨S4x4096x3072, .f32⟩
  | .hbm, ⟨80, _⟩ => ⟨S4x4096x3072, .f32⟩
  | .hbm, ⟨81, _⟩ => ⟨S_, .f32⟩
  | .hbm, ⟨82, _⟩ => ⟨S4x4096x3072, .f32⟩
  | .hbm, ⟨83, _⟩ => ⟨S4x4096x3072, .f32⟩
  | .hbm, ⟨84, _⟩ => ⟨S_, .f32⟩
  | .hbm, ⟨85, _⟩ => ⟨S4x4096x3072, .f32⟩
  | .hbm, ⟨86, _⟩ => ⟨S4x4096x3072, .f32⟩
  | .hbm, ⟨87, _⟩ => ⟨S4x4096x3x1024, .f32⟩
  | .hbm, ⟨88, _⟩ => ⟨S4x4096x1x1024, .f32⟩
  | .hbm, ⟨89, _⟩ => ⟨S4x4096x1024, .f32⟩
  | .hbm, ⟨90, _⟩ => ⟨S4x4096x1024, .f32⟩
  | .hbm, ⟨91, _⟩ => ⟨S4x4096x1x1024, .f32⟩
  | .hbm, ⟨92, _⟩ => ⟨S4x4096x1024, .f32⟩
  | .hbm, ⟨93, _⟩ => ⟨S4x4096x1024, .f32⟩
  | .hbm, ⟨94, _⟩ => ⟨S4x4096x1024, .f32⟩
  | .hbm, ⟨95, _⟩ => ⟨S4x4096x1x1024, .f32⟩
  | .hbm, ⟨96, _⟩ => ⟨S4x4096x1024, .f32⟩
  | .hbm, ⟨97, _⟩ => ⟨S4x4096x1024, .f32⟩
  | .hbm, ⟨98, _⟩ => ⟨S4x4096x1024, .f32⟩
  | .hbm, ⟨99, _⟩ => ⟨S1024x1024, .f32⟩
  | .hbm, ⟨100, _⟩ => ⟨S4x4096x1024, .f32⟩
  | .hbm, ⟨101, _⟩ => ⟨S4x4096x1024, .f32⟩
  | .hbm, ⟨102, _⟩ => ⟨S4x4096x1024, .f32⟩
  | .hbm, ⟨103, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c : Ref sig .tc := ⟨.hbm, 47, rfl⟩
abbrev main_call0_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_5 : Ref sig .tc := ⟨.hbm, 81, rfl⟩
abbrev main_v62 : Ref sig .tc := ⟨.hbm, 82, rfl⟩
abbrev main_v63 : Ref sig .tc := ⟨.hbm, 83, rfl⟩
abbrev main_cst_6 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S8x1x6144 : Shape := ⟨3, ![8, 1, 6144]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩

abbrev nBuf : Space → Nat
  | .hbm => 9
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S8x1x6144, .f32⟩
  | .hbm, ⟨3, _⟩ => ⟨S1024x4096, .bf16⟩
  | .hbm, ⟨4, _⟩ => ⟨S4096x1024, .bf16⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .bf16⟩
  | .local _ .vmem, ⟨17, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![arg0.toNat, c0_i32.toNat, c4_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference5Ideal.lean ====
abbrev S4x4096x1024 : Shape := ⟨3, ![4, 4096, 1024]⟩
abbrev S1024 : Shape := ⟨1, ![1024]⟩
abbrev S8x1x6144 : Shape := ⟨3, ![8, 1, 6144]⟩
abbrev S1024x4096 : Shape := ⟨2, ![1024, 4096]⟩
abbrev S4096x1024 : Shape := ⟨2, ![4096, 1024]⟩
abbrev S4x1x3072 : Shape := ⟨3, ![4, 1, 3072]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S8x1x6144, .f32⟩
  | .hbm, ⟨3, _⟩ => ⟨S1024x4096, .bf16⟩
  | .hbm, ⟨4, _⟩ => ⟨S4096x1024, .bf16⟩
  | .hbm, ⟨5, _⟩ => ⟨S1024, .f32⟩
  | .hbm, ⟨6, _⟩ => ⟨S4x1x3072, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S1024x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel6.lean ====
abbrev S4x2048x1024 : Shape := ⟨3, ![4, 2048, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .f32⟩
  | .hbm, ⟨2, _⟩ => ⟨S4x2048x1024, .f32⟩
  | .hbm, ⟨3, _⟩ => ⟨S4x1024x1024, .bf16⟩
  | .hbm, ⟨4, _⟩ => ⟨S4x1024x1024, .bf16⟩
  | .hbm, ⟨5, _⟩ => ⟨S4x1024x1024, .bf16⟩
  | .hbm, ⟨6, _⟩ => ⟨S4x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x512x1024, .f32⟩
  | .local _ .vmem, ⟨13, _⟩ => ⟨S1x512x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S4x2048x1024 : Shape := ⟨3, ![4, 2048, 1024]⟩
abbrev S4x1024x1024 : Shape := ⟨3, ![4, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .f32⟩
  | .hbm, ⟨2, _⟩ => ⟨S4x2048x1024, .f32⟩
  | .hbm, ⟨3, _⟩ => ⟨S4x1024x1024, .bf16⟩
  | .hbm, ⟨4, _⟩ => ⟨S4x1024x1024, .bf16⟩
  | .hbm, ⟨5, _⟩ => ⟨S4x1024x1024, .bf16⟩
  | .hbm, ⟨6, _⟩ => ⟨S4x2048x1024, .f32⟩
  | .hbm, ⟨7, _⟩ => ⟨S4x1024x1024, .f32⟩
  | .hbm, ⟨8, _⟩ => ⟨S4x2048x1024, .f32⟩
  | .hbm, ⟨9, _⟩ => ⟨S4x1024x1024, .f32⟩
  | .hbm, ⟨10, _⟩ => ⟨S4x2048x1024, .f32⟩
  | .hbm, ⟨11, _⟩ => ⟨S4x2048x1024, .f32⟩
  | .hbm, ⟨12, _⟩ => ⟨S4x1024x1024, .f32⟩
  | .hbm, ⟨13, _⟩ => ⟨S4x2048x1024, .f32⟩
  | .hbm, ⟨14, _⟩ => ⟨S4x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel7.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel8.lean ====
abbrev S4x4096x6656 : Shape := ⟨3, ![4, 4096, 6656]⟩
abbrev S3x1536 : Shape := ⟨2, ![3, 1536]⟩
abbrev S1536 : Shape := ⟨1, ![1536]⟩
abbrev S1x1536 : Shape := ⟨2, ![1, 1536]⟩
abbrev S4x16x512x256 : Shape := ⟨4, ![4, 16, 512, 256]⟩
abbrev S4x4096x512 : Shape := ⟨3, ![4, 4096, 512]⟩
abbrev S1x256x512 : Shape := ⟨3, ![1, 256, 512]⟩
abbrev S1x8x512 : Shape := ⟨3, ![1, 8, 512]⟩
abbrev S1x1x512x256 : Shape := ⟨4, ![1, 1, 512, 256]⟩
abbrev S256x512 : Shape := ⟨2, ![256, 512]⟩
abbrev S1x1x512 : Shape := ⟨3, ![1, 1, 512]⟩
abbrev S1x512 : Shape := ⟨2, ![1, 512]⟩
abbrev S3x512 : Shape := ⟨2, ![3, 512]⟩
abbrev S512x256 : Shape := ⟨2, ![512, 256]⟩

abbrev nBuf : Space → Nat
  | .hbm => 6
  | .vmem => 24
  | .smem => 0
  | _ => 0

abbrev bufTy : (tb : Table) → Fin (tcTables nBuf tb) → BufTy
  | .hbm, ⟨0, _⟩ => ⟨S4x4096x6656, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S4x16x512x256, .f32⟩
  | .hbm, ⟨5, _⟩ => ⟨S4x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x256x512, .f32⟩
  | .local _ .vmem, ⟨7, _⟩ => ⟨S1x256x512, .f32⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x256x512, .f32⟩
  | .local _ .vmem, ⟨13, _⟩ => ⟨S1x256x512, .f32⟩
  | .local _ .vmem, ⟨14, _⟩ => ⟨S1x8x512, .f32⟩
  | .local _ .vmem, ⟨15, _⟩ => ⟨S1x8x512, .f32⟩
  | .local _ .vmem, ⟨16, _⟩ => ⟨S1x8x512, .f32⟩
  | .local _ .vmem, ⟨17, _⟩ => ⟨S1x8x512, .f32⟩
  | .local _ .vmem, ⟨18, _⟩ => ⟨S3x1536, .f32⟩
  | .local _ .vmem, ⟨19, _⟩ => ⟨S1x1536, .f32⟩
  | .local _ .vmem, ⟨20, _⟩ => ⟨S1x1x512x256, .f32⟩
  | .local _ .vmem, ⟨21, _⟩ => ⟨S1x1x512x256, .f32⟩
  | .local _ .vmem, ⟨22, _⟩ => ⟨S1x256x512, .f32⟩
  | .local _ .vmem, ⟨23, _⟩ => ⟨S1x256x512, .f32⟩
  | _, _ => ⟨S4x4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c4_i32 : BitVec 32 := 4#32
  let c0_i32 : BitVec 32 := 0#32
  ![arg0.toNat, v2.toNat, c4_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c5_i32 : BitVec 32 := 5#32
  let c0_i32 : BitVec 32 := 0#32
  ![arg0.toNat, v2.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![arg0.toNat, v2.toNat, c6_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c6_i32 : BitVec 32 := 6#32
  let c0_i32 : BitVec 32 := 0#32
  ![arg0.toNat, v2.toNat, c6_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference8Ideal.lean ====
abbrev S4x4096x6656 : Shape := ⟨3, ![4, 4096, 6656]⟩
abbrev S3x1536 : Shape := ⟨2, ![3, 1536]⟩
abbrev S1536 : Shape := ⟨1, ![1536]⟩
abbrev S4x4096x1536 : Shape := ⟨3, ![4, 4096, 1536]⟩
abbrev S_ : Shape := ⟨0, ![]⟩
abbrev S4x4098x1536 : Shape := ⟨3, ![4, 4098, 1536]⟩
abbrev S1x1536 : Shape := ⟨2, ![1, 1536]⟩
abbrev S1x1x1536 : Shape := ⟨3, ![1, 1, 1536]⟩
abbrev S4x4096x512 : Shape := ⟨3, ![4, 4096, 512]⟩
abbrev S4x16x256x512 : Shape := ⟨4, ![4, 16, 256, 512]⟩
abbrev S4x16x512x256 : Shape := ⟨4, ![4, 16, 512, 256]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x6656, .f32⟩
  | .hbm, ⟨1, _⟩ => ⟨S3x1536, .f32⟩
  | .hbm, ⟨2, _⟩ => ⟨S1536, .f32⟩
  | .hbm, ⟨3, _⟩ => ⟨S4x4096x1536, .f32⟩
  | .hbm, ⟨4, _⟩ => ⟨S_, .i32⟩
  | .hbm, ⟨5, _⟩ => ⟨S_, .f32⟩
  | .hbm, ⟨6, _⟩ => ⟨S4x4098x1536, .f32⟩
  | .hbm, ⟨7, _⟩ => ⟨S1x1536, .f32⟩
  | .hbm, ⟨8, _⟩ => ⟨S1536, .f32⟩
  | .hbm, ⟨9, _⟩ => ⟨S4x4096x1536, .f32⟩
  | .hbm, ⟨10, _⟩ => ⟨S1x1x1536, .f32⟩
  | .hbm, ⟨11, _⟩ => ⟨S4x4096x1536, .f32⟩
  | .hbm, ⟨12, _⟩ => ⟨S4x4096x1536, .f32⟩
  | .hbm, ⟨13, _⟩ => ⟨S1x1536, .f32⟩
  | .hbm, ⟨14, _⟩ => ⟨S1536, .f32⟩
  | .hbm, ⟨15, _⟩ => ⟨S4x4096x1536, .f32⟩
  | .hbm, ⟨16, _⟩ => ⟨S1x1x1536, .f32⟩
  | .hbm, ⟨17, _⟩ => ⟨S4x4096x1536, .f32⟩
  | .hbm, ⟨18, _⟩ => ⟨S4x4096x1536, .f32⟩
  | .hbm, ⟨19, _⟩ => ⟨S4x4096x1536, .f32⟩
  | .hbm, ⟨20, _⟩ => ⟨S1x1536, .f32⟩
  | .hbm, ⟨21, _⟩ => ⟨S1536, .f32⟩
  | .hbm, ⟨22, _⟩ => ⟨S4x4096x1536, .f32⟩
  | .hbm, ⟨23, _⟩ => ⟨S1x1x1536, .f32⟩
  | .hbm, ⟨24, _⟩ => ⟨S4x4096x1536, .f32⟩
  | .hbm, ⟨25, _⟩ => ⟨S4x4096x1536, .f32⟩
  | .hbm, ⟨26, _⟩ => ⟨S4x4096x1536, .f32⟩
  | .hbm, ⟨27, _⟩ => ⟨S1x1x1536, .f32⟩
  | .hbm, ⟨28, _⟩ => ⟨S4x4096x1536, .f32⟩
  | .hbm, ⟨29, _⟩ => ⟨S4x4096x1536, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S4x16x256x512, .f32⟩
  | .hbm, ⟨35, _⟩ => ⟨S4x16x512x256, .f32⟩
  | _, _ => ⟨S4x4096x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Kernel9.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x7 : Shape := ⟨2, ![4096, 7]⟩
abbrev S4096x40 : Shape := ⟨2, ![4096, 40]⟩
abbrev S7x64 : Shape := ⟨2, ![7, 64]⟩
abbrev S40x64 : Shape := ⟨2, ![40, 64]⟩
abbrev S511 : Shape := ⟨1, ![511]⟩
abbrev S512 : Shape := ⟨1, ![512]⟩
abbrev S1x512 : Shape := ⟨2, ![1, 512]⟩
abbrev S1x64 : Shape := ⟨2, ![1, 64]⟩
abbrev S16x512x256 : Shape := ⟨3, ![16, 512, 256]⟩
abbrev S256x40 : Shape := ⟨2, ![256, 40]⟩
abbrev S1x512x256 : Shape := ⟨3, ![1, 512, 256]⟩
abbrev S256x64 : Shape := ⟨2, ![256, 64]⟩
abbrev S256x1024 : Shape := ⟨2, ![256, 1024]⟩
abbrev S256x1 : Shape := ⟨2, ![256, 1]⟩
abbrev S256x512 : Shape := ⟨2, ![256, 512]⟩
abbrev S512x256 : Shape := ⟨2, ![512, 256]⟩

abbrev nBuf : Space → Nat
  | .hbm => 111
  | .vmem => 16
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4095, .f32⟩
  | .hbm, ⟨16, _⟩ => ⟨S_, .f32⟩
  | .hbm, ⟨17, _⟩ => ⟨S4095, .f32⟩
  | .hbm, ⟨18, _⟩ => ⟨S4095, .f32⟩
  | .hbm, ⟨19, _⟩ => ⟨S1, .f32⟩
  | .hbm, ⟨20, _⟩ => ⟨S_, .f32⟩
  | .hbm, ⟨21, _⟩ => ⟨S4095, .f32⟩
  | .hbm, ⟨22, _⟩ => ⟨S4095, .f32⟩
  | .hbm, ⟨23, _⟩ => ⟨S4095, .f32⟩
  | .hbm, ⟨24, _⟩ => ⟨S4095, .f32⟩
  | .hbm, ⟨25, _⟩ => ⟨S1, .f32⟩
  | .hbm, ⟨26, _⟩ => ⟨S4095, .f32⟩
  | .hbm, ⟨27, _⟩ => ⟨S4095, .f32⟩
  | .hbm, ⟨28, _⟩ => ⟨S4095, .f32⟩
  | .hbm, ⟨29, _⟩ => ⟨S1, .f32⟩
  | .hbm, ⟨30, _⟩ => ⟨S4096, .f32⟩
  | .hbm, ⟨31, _⟩ => ⟨S4096x1, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S_, .i32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S15, .f32⟩
  | .hbm, ⟨48, _⟩ => ⟨S_, .f32⟩
  | .hbm, ⟨49, _⟩ => ⟨S15, .f32⟩
  | .hbm, ⟨50, _⟩ => ⟨S15, .f32⟩
  | .hbm, ⟨51, _⟩ => ⟨S1, .f32⟩
  | .hbm, ⟨52, _⟩ => ⟨S_, .f32⟩
  | .hbm, ⟨53, _⟩ => ⟨S15, .f32⟩
  | .hbm, ⟨54, _⟩ => ⟨S15, .f32⟩
  | .hbm, ⟨55, _⟩ => ⟨S15, .f32⟩
  | .hbm, ⟨56, _⟩ => ⟨S15, .f32⟩
  | .hbm, ⟨57, _⟩ => ⟨S1, .f32⟩
  | .hbm, ⟨58, _⟩ => ⟨S15, .f32⟩
  | .hbm, ⟨59, _⟩ => ⟨S15, .f32⟩
  | .hbm, ⟨60, _⟩ => ⟨S15, .f32⟩
  | .hbm, ⟨61, _⟩ => ⟨S1, .f32⟩
  | .hbm, ⟨62, _⟩ => ⟨S16, .f32⟩
  | .hbm, ⟨63, _⟩ => ⟨S1x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x16, .f32⟩
  | .hbm, ⟨73, _⟩ => ⟨S_, .f32⟩
  | .hbm, ⟨74, _⟩ => ⟨S4096x7, .f32⟩
  | .hbm, ⟨75, _⟩ => ⟨S4096x40, .f32⟩
  | .hbm, ⟨76, _⟩ => ⟨S_, .f32⟩
  | .hbm, ⟨77, _⟩ => ⟨S7x64, .f32⟩
  | .hbm, ⟨78, _⟩ => ⟨S40x64, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S511, .f32⟩
  | .hbm, ⟨87, _⟩ => ⟨S_, .f32⟩
  | .hbm, ⟨88, _⟩ => ⟨S511, .f32⟩
  | .hbm, ⟨89, _⟩ => ⟨S511, .f32⟩
  | .hbm, ⟨90, _⟩ => ⟨S1, .f32⟩
  | .hbm, ⟨91, _⟩ => ⟨S_, .f32⟩
  | .hbm, ⟨92, _⟩ => ⟨S511, .f32⟩
  | .hbm, ⟨93, _⟩ => ⟨S511, .f32⟩
  | .hbm, ⟨94, _⟩ => ⟨S511, .f32⟩
  | .hbm, ⟨95, _⟩ => ⟨S511, .f32⟩
  | .hbm, ⟨96, _⟩ => ⟨S1, .f32⟩
  | .hbm, ⟨97, _⟩ => ⟨S511, .f32⟩
  | .hbm, ⟨98, _⟩ => ⟨S511, .f32⟩
  | .hbm, ⟨99, _⟩ => ⟨S511, .f32⟩
  | .hbm, ⟨100, _⟩ => ⟨S1, .f32⟩
  | .hbm, ⟨101, _⟩ => ⟨S512, .f32⟩
  | .hbm, ⟨102, _⟩ => ⟨S512, .f32⟩
  | .hbm, ⟨103, _⟩ => ⟨S1x512, .f32⟩
  | .hbm, ⟨104, _⟩ => ⟨S1x64, .f32⟩
  | .hbm, ⟨105, _⟩ => ⟨S1x64, .f32⟩
  | .hbm, ⟨106, _⟩ => ⟨S1x64, .f32⟩
  | .hbm, ⟨107, _⟩ => ⟨S1x64, .f32⟩
  | .hbm, ⟨108, _⟩ => ⟨S16x512x256, .f32⟩
  | .hbm, ⟨109, _⟩ => ⟨S16x512x256, .f32⟩
  | .hbm, ⟨110, _⟩ => ⟨S1x512, .f32⟩
  | .local _ .vmem, ⟨0, _⟩ => ⟨S256x40, .f32⟩
  | .local _ .vmem, ⟨1, _⟩ => ⟨S256x40, .f32⟩
  | .local _ .vmem, ⟨2, _⟩ => ⟨S40x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S64x1024, .f32⟩
  | .local _ .vmem, ⟨10, _⟩ => ⟨S1x512, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_cst_3 : Ref sig .tc := ⟨.hbm, 40, rfl⟩
abbrev main_c : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_cst : Ref sig .tc := ⟨.hbm, 45, rfl⟩
abbrev main_call1_v3 : Ref sig .tc := ⟨.hbm, 46, rfl⟩
abbrev main_call1_v4 : Ref sig .tc := ⟨.hbm, 47, rfl⟩
abbrev main_call1_cst_0 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_cst_1 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_v15 : Ref sig .tc := ⟨.hbm, 60, rfl⟩
abbrev main_call1_v16 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_cst_4 : Ref sig .tc := ⟨.hbm, 73, rfl⟩
abbrev main_v19 : Ref sig .tc := ⟨.hbm, 74, rfl⟩
abbrev main_v20 : Ref sig .tc := ⟨.hbm, 75, rfl⟩
abbrev main_cst_5 : Ref sig .tc := ⟨.hbm, 76, rfl⟩
abbrev main_v21 : Ref sig .tc := ⟨.hbm, 77, rfl⟩
abbrev main_v22 : Ref sig .tc := ⟨.hbm, 78, rfl⟩
abbrev main_cst_6 : Ref sig .tc := ⟨.hbm, 79, rfl⟩
abbrev main_cst_7 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_cst : Ref sig .tc := ⟨.hbm, 84, rfl⟩
abbrev main_call2_v3 : Ref sig .tc := ⟨.hbm, 85, rfl⟩
abbrev main_call2_v4 : Ref sig .tc := ⟨.hbm, 86, rfl⟩
abbrev main_call2_cst_0 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_cst_1 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_v15 : Ref sig .tc := ⟨.hbm, 99, rfl⟩
abbrev main_call2_v16 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30_0 : Ref sig .tc := ⟨.hbm, 108, rfl⟩
abbrev main_v30_1 : Ref sig .tc := ⟨.hbm, 109, rfl⟩
abbrev main_v30_2 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference9Ideal.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S4096x64 : Shape := ⟨2, ![4096, 64]⟩
abbrev S1x64 : Shape := ⟨2, ![1, 64]⟩
abbrev S4096x1024 : Shape := ⟨2, ![4096, 1024]⟩
abbrev S511 : Shape := ⟨1, ![511]⟩
abbrev S512 : Shape := ⟨1, ![512]⟩
abbrev S1x512 : Shape := ⟨2, ![1, 512]⟩
abbrev S4096x512 : Shape := ⟨2, ![4096, 512]⟩
abbrev S4095x512 : Shape := ⟨2, ![4095, 512]⟩
abbrev S16x256x512 : Shape := ⟨3, ![16, 256, 512]⟩
abbrev S16x512x256 : Shape := ⟨3, ![16, 512, 256]⟩

abbrev nBuf : Space → Nat
  | .hbm => 150
  | .vmem => 0
  | .smem => 0
  | _ => 0

abbrev hbmTy0_0 (i : Nat) : BufTy := match i % 128 with
  | 0 => ⟨S33x64, .f32⟩
  | 1 => ⟨S64, .f32⟩
  | 2 => ⟨S64x64, .f32⟩
  | 3 => ⟨S64, .f32⟩
  | 4 => ⟨S64x64, .f32⟩
  | 5 => ⟨S64, .f32⟩
  | 6 => ⟨S64, .f32⟩
  | 7 => ⟨S64x1024, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S4095, .f32⟩
  | 16 => ⟨S_, .f32⟩
  | 17 => ⟨S4095, .f32⟩
  | 18 => ⟨S4095, .f32⟩
  | 19 => ⟨S1, .f32⟩
  | 20 => ⟨S_, .f32⟩
  | 21 => ⟨S4095, .f32⟩
  | 22 => ⟨S4095, .f32⟩
  | 23 => ⟨S4095, .f32⟩
  | 24 => ⟨S4095, .f32⟩
  | 25 => ⟨S1, .f32⟩
  | 26 => ⟨S4095, .f32⟩
  | 27 => ⟨S4095, .f32⟩
  | 28 => ⟨S4095, .f32⟩
  | 29 => ⟨S1, .f32⟩
  | 30 => ⟨S4096, .f32⟩
  | 31 => ⟨S4096x1, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S_, .f32⟩
  | 41 => ⟨S_, .i32⟩
  | 42 => ⟨S_, .f32⟩
  | 43 => ⟨S_, .f32⟩
  | 44 => ⟨S_, .f32⟩
  | 45 => ⟨S_, .f32⟩
  | 46 => ⟨S_, .f32⟩
  | 47 => ⟨S15, .f32⟩
  | 48 => ⟨S_, .f32⟩
  | 49 => ⟨S15, .f32⟩
  | 50 => ⟨S15, .f32⟩
  | 51 => ⟨S1, .f32⟩
  | 52 => ⟨S_, .f32⟩
  | 53 => ⟨S15, .f32⟩
  | 54 => ⟨S15, .f32⟩
  | 55 => ⟨S15, .f32⟩
  | 56 => ⟨S15, .f32⟩
  | 57 => ⟨S1, .f32⟩
  | 58 => ⟨S15, .f32⟩
  | 59 => ⟨S15, .f32⟩
  | 60 => ⟨S15, .f32⟩
  | 61 => ⟨S1, .f32⟩
  | 62 => ⟨S16, .f32⟩
  | 63 => ⟨S1x16, .f32⟩
  | 64 => ⟨S4096x16, .f32⟩
  | 65 => ⟨S4096x16, .f32⟩
  | 66 => ⟨S4096x16, .f32⟩
  | 67 => ⟨S4096x16, .f32⟩
  | 68 => ⟨S4096x16, .f32⟩
  | 69 => ⟨S4096x16, .f32⟩
  | 70 => ⟨S4096x16, .f32⟩
  | 71 => ⟨S4096x16, .f32⟩
  | 72 => ⟨S4096x16, .f32⟩
  | 73 => ⟨S4096x33, .f32⟩
  | 74 => ⟨S4096x64, .f32⟩
  | 75 => ⟨S1x64, .f32⟩
  | 76 => ⟨S4096x64, .f32⟩
  | 77 => ⟨S4096x64, .f32⟩
  | 78 => ⟨S1x64, .f32⟩
  | 79 => ⟨S4096x64, .f32⟩
  | 80 => ⟨S4096x64, .f32⟩
  | 81 => ⟨S4096x64, .f32⟩
  | 82 => ⟨S4096x64, .f32⟩
  | 83 => ⟨S1x64, .f32⟩
  | 84 => ⟨S4096x64, .f32⟩
  | 85 => ⟨S4096x64, .f32⟩
  | 86 => ⟨S1x64, .f32⟩
  | 87 => ⟨S4096x64, .f32⟩
  | 88 => ⟨S4096x64, .f32⟩
  | 89 => ⟨S4096x64, .f32⟩
  | 90 => ⟨S4096x64, .f32⟩
  | 91 => ⟨S1x64, .f32⟩
  | 92 => ⟨S4096x64, .f32⟩
  | 93 => ⟨S4096x64, .f32⟩
  | 94 => ⟨S1x64, .f32⟩
  | 95 => ⟨S4096x64, .f32⟩
  | 96 => ⟨S4096x64, .f32⟩
  | 97 => ⟨S4096x64, .f32⟩
  | 98 => ⟨S4096x1024, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S511, .f32⟩
  | 107 => ⟨S_, .f32⟩
  | 108 => ⟨S511, .f32⟩
  | 109 => ⟨S511, .f32⟩
  | 110 => ⟨S1, .f32⟩
  | 111 => ⟨S_, .f32⟩
  | 112 => ⟨S511, .f32⟩
  | 113 => ⟨S511, .f32⟩
  | 114 => ⟨S511, .f32⟩
  | 115 => ⟨S511, .f32⟩
  | 116 => ⟨S1, .f32⟩
  | 117 => ⟨S511, .f32⟩
  | 118 => ⟨S511, .f32⟩
  | 119 => ⟨S511, .f32⟩
  | 120 => ⟨S1, .f32⟩
  | 121 => ⟨S512, .f32⟩
  | 122 => ⟨S512, .f32⟩
  | 123 => ⟨S4096x1, .f32⟩
  | 124 => ⟨S1x512, .f32⟩
  | 125 => ⟨S4096x512, .f32⟩
  | 126 => ⟨S4096x512, .f32⟩
  | 127 => ⟨S4096x512, .f32⟩
  | _ => ⟨S33x64, .f32⟩

abbrev hbmTy0_1 (i : Nat) : BufTy := match i % 128 with
  | 0 => ⟨S4096x512, .f32⟩
  | 1 => ⟨S_, .f32⟩
  | 2 => ⟨S4096x512, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S_, .f32⟩
  | 9 => ⟨S1x512, .f32⟩
  | 10 => ⟨S4095x512, .f32⟩
  | 11 => ⟨S4096x512, .f32⟩
  | 12 => ⟨S16x256x512, .f32⟩
  | 13 => ⟨S16x512x256, .f32⟩
  | 14 => ⟨S16x256x512, .f32⟩
  | 15 => ⟨S16x512x256, .f32⟩
  | 16 => ⟨S4096x512, .f32⟩
  | 17 => ⟨S4096x512, .f32⟩
  | 18 => ⟨S4096x512, .f32⟩
  | 19 => ⟨S_, .f32⟩
  | 20 => ⟨S512, .f32⟩
  | 21 => ⟨S1x512, .f32⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_cst_3 : Ref sig .tc := ⟨.hbm, 40, rfl⟩
abbrev main_c : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_cst : Ref sig .tc := ⟨.hbm, 45, rfl⟩
abbrev main_call1_v3 : Ref sig .tc := ⟨.hbm, 46, rfl⟩
abbrev main_call1_v4 : Ref sig .tc := ⟨.hbm, 47, rfl⟩
abbrev main_call1_cst_0 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_cst_1 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_v15 : Ref sig .tc := ⟨.hbm, 60, rfl⟩
abbrev main_call1_v16 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_4 : Ref sig .tc := ⟨.hbm, 99, rfl⟩
abbrev main_cst_5 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_cst : Ref sig .tc := ⟨.hbm, 104, rfl⟩
abbrev main_call2_v3 : Ref sig .tc := ⟨.hbm, 105, rfl⟩
abbrev main_call2_v4 : Ref sig .tc := ⟨.hbm, 106, rfl⟩
abbrev main_call2_cst_0 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_cst_1 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_v12 : Ref sig .tc := ⟨.hbm, 116, rfl⟩
abbrev main_call2_v13 : Ref sig .tc := ⟨.hbm, 117, rfl⟩
abbrev main_call2_v14 : Ref sig .tc := ⟨.hbm, 118, rfl⟩
abbrev main_call2_v15 : Ref sig .tc := ⟨.hbm, 119, rfl⟩
abbrev main_call2_v16 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_6 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_cst_7 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_cst_8 : Ref sig .tc := ⟨.hbm, 147, rfl⟩
abbrev main_v69 : Ref sig .tc := ⟨.hbm, 148, rfl⟩
abbrev main_v70 : Ref sig .tc := ⟨.hbm, 149, rfl⟩

abbrev nD : Nat := 1
abbrev τ : Topo := Topo.v7x

variable {F : FTy → Type} [FloatOps F]
-- ==== Proof.Frames.lean ====
/-
  The references' frames, off their generated runs.
-/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import Idealize.ShloMosaic.Lib.Quiescent

@[expose] public section

noncomputable section

open Idealize.ShloMosaic Idealize.ShloMosaic.TcCoe Idealize.SL.Sem

namespace Cert.Proof.Frames

/-- The scan reference runs, leaves its arguments as they were and every semaphore at zero. -/
theorem reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩) (Cert.ReferenceIdeal.Value.run (F := Ideal) m ρ)

/-- The feed-forward reference runs, leaves its arguments as they were and every semaphore at zero. -/
theorem reference2 : Cert.quiescent_Reference2Ideal := fun m ρ _ =>
  (θ_run Cert.Reference2Ideal.defs _ _).mono
    (fun r h => ⟨fun c => (h c).2, Idealize.ShloMosaic.sem_eq_zero_of_no_sems (by decide) r.2⟩) (Cert.Reference2Ideal.Value.run (F := Ideal) m ρ)

/-- The projection reference runs, leaves its arguments as they were and every semaphore at zero. -/
theorem reference3 : Cert.quiescent_Reference3Ideal := fun m ρ _ =>
  (θ_run Cert.Reference3Ideal.defs _ _).mono
    (fun r h => ⟨fun c => (h c).2, Idealize.ShloMosaic.sem_eq_zero_of_no_sems (by decide) r.2⟩) (Cert.Reference3Ideal.Value.run (F := Ideal) m ρ)

/-- The merge reference runs, leaves its arguments as they were and every semaphore at zero. -/
theorem reference4 : Cert.quiescent_Reference4Ideal := fun m ρ _ =>
  (θ_run Cert.Reference4Ideal.defs _ _).mono
    (fun r h => ⟨fun c => (h c).2, Idealize.ShloMosaic.sem_eq_zero_of_no_sems (by decide) r.2⟩) (Cert.Reference4Ideal.Value.run (F := Ideal) m ρ)

/-- The plain feed-forward reference runs, leaves its arguments as they were and every semaphore at zero. -/
theorem reference5 : Cert.quiescent_Reference5Ideal := fun m ρ _ =>
  (θ_run Cert.Reference5Ideal.defs _ _).mono
    (fun r h => ⟨fun c => (h c).2, Idealize.ShloMosaic.sem_eq_zero_of_no_sems (by decide) r.2⟩) (Cert.Reference5Ideal.Value.run (F := Ideal) m ρ)

/-- The readout reference runs, leaves its arguments as they were and every semaphore at zero. -/
theorem reference6 : Cert.quiescent_Reference6Ideal := fun m ρ _ =>
  (θ_run Cert.Reference6Ideal.defs _ _).mono
    (fun r h => ⟨fun c => (h c).2, Idealize.ShloMosaic.sem_eq_zero_of_no_sems (by decide) r.2⟩) (Cert.Reference6Ideal.Value.run (F := Ideal) m ρ)

/-- The modulation reference runs, leaves its arguments as they were and every semaphore at zero. -/
theorem reference7 : Cert.quiescent_Reference7Ideal := fun m ρ _ =>
  (θ_run Cert.Reference7Ideal.defs _ _).mono
    (fun r h => ⟨fun c => (h c).2, Idealize.ShloMosaic.sem_eq_zero_of_no_sems (by decide) r.2⟩) (Cert.Reference7Ideal.Value.run (F := Ideal) m ρ)

/-- The short convolution reference runs, leaves its arguments as they were and every semaphore at zero. -/
theorem reference8 : Cert.quiescent_Reference8Ideal := fun m ρ _ =>
  (θ_run Cert.Reference8Ideal.defs _ _).mono
    (fun r h => ⟨fun c => (h c).2.2, Idealize.ShloMosaic.sem_eq_zero_of_no_sems (by decide) r.2⟩) (Cert.Reference8Ideal.Value.run (F := Ideal) m ρ)

/-- The filter reference runs, leaves its arguments as they were and every semaphore at zero. -/
theorem reference9 : Cert.quiescent_Reference9Ideal := fun m ρ _ =>
  (θ_run Cert.Reference9Ideal.defs _ _).mono
    (fun r h => ⟨fun c => (h c).2.2.2, Idealize.ShloMosaic.sem_eq_zero_of_no_sems (by decide) r.2⟩) (Cert.Reference9Ideal.Value.run (F := Ideal) m ρ)

end Cert.Proof.Frames

end
-- ==== Proof.ScanStep.lean ====
/-
  The affine recurrence of the scan, and one trip of the kernel's loop as two steps of it in each direction.
-/
module

public import proofs.«01_k».proof.Defs
public import proofs.«01_k».proof.Proof.Gen.KernelIdeal.Value
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem
open VecWindow

namespace Cert.Proof.Scan

/-- The complex product of a decay and a state, both given as 256 real parts followed by 256 imaginary parts. -/
def turn (a s : Fin 512 → EReal) (l : Fin 512) : EReal :=
  if h : l.val < 256 then
    a l * s l - a ⟨256 + l.val, by omega⟩ * s ⟨256 + l.val, by omega⟩
  else
    a ⟨l.val - 256, by omega⟩ * s ⟨256 + (l.val - 256), by omega⟩
      + a ⟨256 + (l.val - 256), by omega⟩ * s ⟨l.val - 256, by omega⟩

/-- The state of chain `b` after `j` steps: turned by the decay, the step's input added. -/
def state (a : Fin 512 → EReal) (i : ℕ → Fin 512 → EReal) (d : ℕ → ℕ → Fin 512 → EReal) : ℕ → ℕ → Fin 512 → EReal
  | 0, b, l => i b l
  | j + 1, b, l => turn a (state a i d j b) l + d j b l

open Cert.KernelIdeal Cert.KernelIdeal.Gen

section Payloads

variable (a : FVec Ideal S1x512 .f32) (s : FVec Ideal S8x512 .f32) (w : FVec Ideal S1x8x512 .f32)

theorem pay11 (r : Fin 8) (l : Fin 512) :
    k0_pay11 a s w (ix2 r l) = turn (fun l => a (ix2 0 l)) (fun l => s (ix2 ⟨(r.val + 8 - 4) % 8, by omega⟩ l)) l
      + w (ix3 0 ⟨(r.val + 8 - 4) % 8, by omega⟩ l) := by
  pointwise [k0_pay11, k0_pay10]
  rfl

theorem pay12 (r : Fin 8) (l : Fin 512) :
    k0_pay12 a s w (ix2 r l) = turn (fun l => a (ix2 0 l)) (fun l => k0_pay11 a s w (ix2 r l)) l + w (ix3 0 r l) := by
  pointwise [k0_pay12, k0_pay10]
  rfl

theorem pay6 (r : Fin 8) (l : Fin 512) : k0_pay6 s (ix2 r l) = s (ix2 ⟨(r.val + 8 - 4) % 8, by omega⟩ l) := by
  pointwise [k0_pay6]

theorem low : ∀ r : Fin 8, IntOp.cmpi CmpIPredicate.slt (BitVec.ofNat 32 r.val) 4#32 = if r.val < 4 then 1#1 else 0#1 := by
  decide +kernel

theorem pay13 (r : Fin 8) (l : Fin 512) :
    k0_pay13 a k0_pay42 s w (ix3 0 r l) = if r.val < 4 then s (ix2 r l) else k0_pay11 a s w (ix2 r l) := by
  pointwise [k0_pay13, k0_pay42]
  rw [low]
  split <;> rfl

theorem pay4 (r : Fin 8) (l : Fin 512) :
    k0_pay4 a s w (ix2 r l) = turn (fun l => a (ix2 0 l)) (fun l => s (ix2 ⟨(r.val + 8 - 4) % 8, by omega⟩ l)) l
      + w (ix3 0 ⟨(r.val + 8 - 4) % 8, by omega⟩ l) := by
  pointwise [k0_pay4, k0_pay3]
  rfl

theorem pay7 (r : Fin 8) (l : Fin 512) :
    k0_pay7 a s w (ix2 r l) = turn (fun l => a (ix2 0 l))
        (fun l => k0_pay4 a s w (ix2 ⟨(r.val + 8 - 4) % 8, by omega⟩ l)) l
      + w (ix3 0 ⟨(r.val + 8 - 4) % 8, by omega⟩ l) := by
  pointwise [k0_pay7, k0_pay3]
  rfl

theorem pay5 (r : Fin 8) (l : Fin 512) :
    k0_pay5 a k0_pay42 s w (ix3 0 r l) = if r.val < 4 then k0_pay4 a s w (ix2 r l) else s (ix2 r l) := by
  pointwise [k0_pay5, k0_pay42]
  rw [low]
  split <;> rfl

end Payloads

/-- The state rows come in two groups of four, exchanged by the kernel's rotation of eight rows by four. -/
theorem high_of_low (r : ℕ) (h : r < 4) (p : (r + 8 - 4) % 8 < 8) : (⟨(r + 8 - 4) % 8, p⟩ : Fin 8) = ⟨r + 4, by omega⟩ :=
  Fin.ext (by show (r + 8 - 4) % 8 = r + 4; omega)

theorem low_of_high (r : ℕ) (h : r < 4) (p : (r + 4 + 8 - 4) % 8 < 8) : (⟨(r + 4 + 8 - 4) % 8, p⟩ : Fin 8) = ⟨r, by omega⟩ :=
  Fin.ext (by show (r + 4 + 8 - 4) % 8 = r; omega)

section Rows

variable (a : FVec Ideal S1x512 .f32) (s : FVec Ideal S8x512 .f32) (w : FVec Ideal S1x8x512 .f32) (r : ℕ) (h : r < 4) (l : Fin 512)

theorem first_fwd : k0_pay11 a s w (ix2 ⟨r + 4, by omega⟩ l)
    = turn (fun l => a (ix2 0 l)) (fun l => s (ix2 ⟨r, by omega⟩ l)) l + w (ix3 0 ⟨r, by omega⟩ l) := by
  rw [pay11]
  simp only [low_of_high r h]

theorem second_fwd : k0_pay6 (k0_pay12 a s w) (ix2 ⟨r, by omega⟩ l)
    = turn (fun l => a (ix2 0 l)) (fun l => k0_pay11 a s w (ix2 ⟨r + 4, by omega⟩ l)) l + w (ix3 0 ⟨r + 4, by omega⟩ l) := by
  rw [pay6, high_of_low r h, pay12]

theorem first_rev : k0_pay4 a s w (ix2 ⟨r, by omega⟩ l)
    = turn (fun l => a (ix2 0 l)) (fun l => s (ix2 ⟨r + 4, by omega⟩ l)) l + w (ix3 0 ⟨r + 4, by omega⟩ l) := by
  rw [pay4]
  simp only [high_of_low r h]

theorem second_rev : k0_pay7 a s w (ix2 ⟨r + 4, by omega⟩ l)
    = turn (fun l => a (ix2 0 l)) (fun l => k0_pay4 a s w (ix2 ⟨r, by omega⟩ l)) l + w (ix3 0 ⟨r, by omega⟩ l) := by
  rw [pay7]
  simp only [low_of_high r h]

end Rows

theorem trips_eq : k0_t1_loop.trips = 256 := by decide +kernel

theorem off1_eq (k : Fin k0_t1_loop.trips) : k0_off1 k = ![0, 8 * k.val, 0] := by
  revert k; decide +kernel

theorem off2_eq (k : Fin k0_t1_loop.trips) : k0_off2 k = ![0, 8 * (255 - k.val), 0] := by
  revert k; decide +kernel

/-- Eight rows written at row `o`. -/
theorem put_rows (x : FVec Ideal S1x2048x512 .f32) (w : FVec Ideal S1x8x512 .f32) (off : Fin 3 → ℕ) (o : ℕ) (ho : off = ![0, o, 0])
    (r : Fin 2048) (l : Fin 512) :
    put x off ![1, 8, 512] w (ix3 0 r l)
      = if h : o ≤ r.val ∧ r.val < o + 8 then w (ix3 0 ⟨r.val - o, by omega⟩ l) else x (ix3 0 r l) := by
  subst ho
  unfold put
  by_cases h : o ≤ r.val ∧ r.val < o + 8
  · have h' : ∀ a, (![0, o, 0] : Fin 3 → ℕ) a ≤ (ix3 (0 : Fin 1) r l a).val ∧ (ix3 (0 : Fin 1) r l a).val < (![0, o, 0] : Fin 3 → ℕ) a + (![1, 8, 512] : Fin 3 → ℕ) a := by
      intro a
      match a with
      | 0 => exact ⟨Nat.le_refl 0, Nat.zero_lt_one⟩
      | 1 => exact h
      | 2 => exact ⟨Nat.zero_le _, by show l.val < 0 + 512; omega⟩
    rw [dif_pos h, dif_pos h']
    refine congrArg w (funext fun a => Fin.ext ?_)
    match a with
    | 0 => rfl
    | 1 => rfl
    | 2 => rfl
  · rw [dif_neg h, dif_neg fun h' => h (h' 1)]

/-- Eight rows read from row `o`. -/
theorem window_rows (x : FVec Ideal S1x2048x512 .f32) (off : Fin 3 → ℕ) (o : ℕ) (ho : off = ![0, o, 0]) (inb) (r : Fin 8) (l : Fin 512)
    (hr : o + r.val < 2048) :
    window (s := S1x2048x512) x off ![1, 8, 512] inb (ix3 0 r l) = x (ix3 0 ⟨o + r.val, hr⟩ l) := by
  subst ho
  unfold window
  refine congrArg x (funext fun a => Fin.ext ?_)
  match a with
  | 0 => rfl
  | 1 => show o + 1 * r.val = o + r.val; omega
  | 2 => show 0 + 1 * l.val = l.val; omega

end Cert.Proof.Scan

end
-- ==== Proof.ScanLoop.lean ====
/-
  The kernel's loop of 256 trips: what the rows and the carried states hold before each trip.
-/
module

public import proofs.«01_k».proof.Proof.ScanStep

@[expose] public section

set_option maxRecDepth 16384

noncomputable section

open Idealize.ShloMosaic Idealize.ShloMosaic.TcCoe Idealize.SL.Sem
open VecWindow

namespace Cert.Proof.Scan

open Cert.KernelIdeal Cert.KernelIdeal.Gen

theorem trip_lt (k : Fin k0_t1_loop.trips) : k.val < 256 := k.isLt.trans_eq trips_eq

section Forward

variable (a : FVec Ideal S1x512 .f32) (S : ℕ → FVec Ideal S8x512 .f32) (X : ℕ → FVec Ideal S1x2048x512 .f32)
  (d : ℕ → ℕ → Fin 512 → EReal) (i : ℕ → Fin 512 → EReal)

/-- The states of the chains, the decay read from the row `a`. -/
abbrev states : ℕ → ℕ → Fin 512 → EReal := state (fun l => a (ix2 0 l)) i d

/-- Before trip `k`: the first four carried rows are the states after `2 k` steps, the rows before `8 k` hold the states
    and the rest the inputs. -/
structure Fwd (k : ℕ) : Prop where
  carry : ∀ (b : ℕ) (hb : b < 4) (l : Fin 512), S k (ix2 ⟨b, by omega⟩ l) = states a d i (2 * k) b l
  rows : ∀ (r : Fin 2048) (l : Fin 512),
    X k (ix3 0 r l) = if r.val < 8 * k then states a d i (r.val / 4) (r.val % 4) l else d (r.val / 4) (r.val % 4) l

variable {a S X d i}

theorem Fwd.next {k : Fin k0_t1_loop.trips} (h : Fwd a S X d i k.val)
    (hS : S (k.val + 1) = k0_pay6 (k0_pay12 a (S k.val) (window (s := S1x2048x512) (X k.val) (k0_off1 k) ![1, 8, 512] (k0_off1_inb k))))
    (hX : X (k.val + 1) = put (s := S1x2048x512) (X k.val) (k0_off1 k) ![1, 8, 512]
      (k0_pay13 a k0_pay42 (S k.val) (window (s := S1x2048x512) (X k.val) (k0_off1 k) ![1, 8, 512] (k0_off1_inb k)))) :
    Fwd a S X d i (k.val + 1) := by
  have hk := trip_lt k
  set w := window (s := S1x2048x512) (X k.val) (k0_off1 k) ![1, 8, 512] (k0_off1_inb k) with hw
  have hwr : ∀ (r : Fin 8) (l : Fin 512), w (ix3 0 r l) = d ((8 * k.val + r.val) / 4) ((8 * k.val + r.val) % 4) l := by
    intro r l
    rw [hw]
    refine (window_rows (X k.val) (k0_off1 k) (8 * k.val) (off1_eq k) _ r l (by omega)).trans ?_
    rw [h.rows]
    exact if_neg (by show ¬ (8 * k.val + r.val < 8 * k.val); omega)
  have h1 : ∀ (b : ℕ) (hb : b < 4) (l : Fin 512), k0_pay11 a (S k.val) w (ix2 ⟨b + 4, by omega⟩ l) = states a d i (2 * k.val + 1) b l := by
    intro b hb l
    rw [first_fwd a (S k.val) w b hb l, hwr]
    show _ = turn _ (states a d i (2 * k.val) b) l + d (2 * k.val) b l
    rw [show (fun l => S k.val (ix2 ⟨b, by omega⟩ l)) = states a d i (2 * k.val) b from funext fun l => h.carry b hb l]
    rw [show (8 * k.val + (⟨b, by omega⟩ : Fin 8).val) / 4 = 2 * k.val by show (8 * k.val + b) / 4 = _; omega,
      show (8 * k.val + (⟨b, by omega⟩ : Fin 8).val) % 4 = b by show (8 * k.val + b) % 4 = _; omega]
  constructor
  · intro b hb l
    rw [hS, second_fwd a (S k.val) w b hb l, hwr]
    show _ = turn _ (states a d i (2 * k.val + 1) b) l + d (2 * k.val + 1) b l
    rw [show (fun l => k0_pay11 a (S k.val) w (ix2 ⟨b + 4, by omega⟩ l)) = states a d i (2 * k.val + 1) b from funext fun l => h1 b hb l]
    rw [show (8 * k.val + (⟨b + 4, by omega⟩ : Fin 8).val) / 4 = 2 * k.val + 1 by show (8 * k.val + (b + 4)) / 4 = _; omega,
      show (8 * k.val + (⟨b + 4, by omega⟩ : Fin 8).val) % 4 = b by show (8 * k.val + (b + 4)) % 4 = _; omega]
  · intro r l
    rw [hX, put_rows (X k.val) _ (k0_off1 k) (8 * k.val) (off1_eq k) r l]
    by_cases hr : 8 * k.val ≤ r.val ∧ r.val < 8 * k.val + 8
    · rw [dif_pos hr, if_pos (by omega), pay13]
      by_cases hlow : r.val - 8 * k.val < 4
      · refine (if_pos hlow).trans ?_
        rw [h.carry (r.val - 8 * k.val) hlow l, show r.val / 4 = 2 * k.val by omega, show r.val % 4 = r.val - 8 * k.val by omega]
      · refine (if_neg hlow).trans ?_
        have e := h1 (r.val - 8 * k.val - 4) (by omega) l
        rw [show r.val / 4 = 2 * k.val + 1 by omega, show r.val % 4 = r.val - 8 * k.val - 4 by omega, ← e]
        refine congrArg (fun q : Fin 8 => k0_pay11 a (S k.val) w (ix2 q l)) (Fin.ext ?_)
        show r.val - 8 * k.val = r.val - 8 * k.val - 4 + 4
        omega
    · rw [dif_neg hr, h.rows]
      by_cases hlt : r.val < 8 * k.val
      · rw [if_pos hlt, if_pos (by omega)]
      · rw [if_neg hlt, if_neg (by omega)]

/-- Before trip `k` of the other direction: the last four carried rows are the states after `2 k` steps, the last `8 k` rows
    hold the states, the last group first, and the rest the inputs. -/
structure Rev (a : FVec Ideal S1x512 .f32) (S : ℕ → FVec Ideal S8x512 .f32) (X : ℕ → FVec Ideal S1x2048x512 .f32)
    (d : ℕ → ℕ → Fin 512 → EReal) (i : ℕ → Fin 512 → EReal) (k : ℕ) : Prop where
  carry : ∀ (b : ℕ) (hb : b < 4) (l : Fin 512), S k (ix2 ⟨b + 4, by omega⟩ l) = states a d i (2 * k) b l
  rows : ∀ (r : Fin 2048) (l : Fin 512),
    X k (ix3 0 r l) = if 2048 ≤ r.val + 8 * k then states a d i (511 - r.val / 4) (r.val % 4) l else d (511 - r.val / 4) (r.val % 4) l

theorem Rev.next {k : Fin k0_t1_loop.trips} (h : Rev a S X d i k.val)
    (hS : S (k.val + 1) = k0_pay7 a (S k.val) (window (s := S1x2048x512) (X k.val) (k0_off2 k) ![1, 8, 512] (k0_off2_inb k)))
    (hX : X (k.val + 1) = put (s := S1x2048x512) (X k.val) (k0_off2 k) ![1, 8, 512]
      (k0_pay5 a k0_pay42 (S k.val) (window (s := S1x2048x512) (X k.val) (k0_off2 k) ![1, 8, 512] (k0_off2_inb k)))) :
    Rev a S X d i (k.val + 1) := by
  have hk := trip_lt k
  set w := window (s := S1x2048x512) (X k.val) (k0_off2 k) ![1, 8, 512] (k0_off2_inb k) with hw
  have hwr : ∀ (r : Fin 8) (l : Fin 512),
      w (ix3 0 r l) = d (511 - (8 * (255 - k.val) + r.val) / 4) ((8 * (255 - k.val) + r.val) % 4) l := by
    intro r l
    rw [hw]
    refine (window_rows (X k.val) (k0_off2 k) (8 * (255 - k.val)) (off2_eq k) _ r l (by omega)).trans ?_
    rw [h.rows]
    exact if_neg (by show ¬ (2048 ≤ 8 * (255 - k.val) + r.val + 8 * k.val); omega)
  have h1 : ∀ (b : ℕ) (hb : b < 4) (l : Fin 512), k0_pay4 a (S k.val) w (ix2 ⟨b, by omega⟩ l) = states a d i (2 * k.val + 1) b l := by
    intro b hb l
    rw [first_rev a (S k.val) w b hb l, hwr]
    show _ = turn _ (states a d i (2 * k.val) b) l + d (2 * k.val) b l
    rw [show (fun l => S k.val (ix2 ⟨b + 4, by omega⟩ l)) = states a d i (2 * k.val) b from funext fun l => h.carry b hb l]
    rw [show 511 - (8 * (255 - k.val) + (⟨b + 4, by omega⟩ : Fin 8).val) / 4 = 2 * k.val by
        show 511 - (8 * (255 - k.val) + (b + 4)) / 4 = _; omega,
      show (8 * (255 - k.val) + (⟨b + 4, by omega⟩ : Fin 8).val) % 4 = b by show (8 * (255 - k.val) + (b + 4)) % 4 = _; omega]
  constructor
  · intro b hb l
    rw [hS, second_rev a (S k.val) w b hb l, hwr]
    show _ = turn _ (states a d i (2 * k.val + 1) b) l + d (2 * k.val + 1) b l
    rw [show (fun l => k0_pay4 a (S k.val) w (ix2 ⟨b, by omega⟩ l)) = states a d i (2 * k.val + 1) b from funext fun l => h1 b hb l]
    rw [show 511 - (8 * (255 - k.val) + (⟨b, by omega⟩ : Fin 8).val) / 4 = 2 * k.val + 1 by
        show 511 - (8 * (255 - k.val) + b) / 4 = _; omega,
      show (8 * (255 - k.val) + (⟨b, by omega⟩ : Fin 8).val) % 4 = b by show (8 * (255 - k.val) + b) % 4 = _; omega]
  · intro r l
    rw [hX, put_rows (X k.val) _ (k0_off2 k) (8 * (255 - k.val)) (off2_eq k) r l]
    by_cases hr : 8 * (255 - k.val) ≤ r.val ∧ r.val < 8 * (255 - k.val) + 8
    · rw [dif_pos hr, if_pos (by omega), pay5]
      by_cases hlow : r.val - 8 * (255 - k.val) < 4
      · refine (if_pos hlow).trans ?_
        rw [h1 (r.val - 8 * (255 - k.val)) hlow l, show 511 - r.val / 4 = 2 * k.val + 1 by omega,
          show r.val % 4 = r.val - 8 * (255 - k.val) by omega]
      · refine (if_neg hlow).trans ?_
        have e := h.carry (r.val - 8 * (255 - k.val) - 4) (by omega) l
        rw [show 511 - r.val / 4 = 2 * k.val by omega, show r.val % 4 = r.val - 8 * (255 - k.val) - 4 by omega, ← e]
        refine congrArg (fun q : Fin 8 => S k.val (ix2 q l)) (Fin.ext ?_)
        show r.val - 8 * (255 - k.val) = r.val - 8 * (255 - k.val) - 4 + 4
        omega
    · rw [dif_neg hr, h.rows]
      by_cases hlt : 2048 ≤ r.val + 8 * k.val
      · rw [if_pos hlt, if_pos (by omega)]
      · rw [if_neg hlt, if_neg (by omega)]

end Forward

section Trips

variable (𝒱 : Variants) (c : Dev nD) (bd : Option 𝒱.V) (i : grid0.Coords) (arg2 : Memref sig .tc .vmem S1x2048x1024 .bf16) (harg2 : arg2.IsWhole) (arg3 : Memref sig .tc .vmem S1x1x1024x512 .bf16) (harg3 : arg3.IsWhole) (arg4 : Memref sig .tc .vmem S1x1x1024x512 .bf16) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x8x512 .f32) (harg7 : arg7.IsWhole) (arg8 : Memref sig .tc .vmem S1x1x8x512 .f32) (harg8 : arg8.IsWhole) (arg9 : Memref sig .tc .vmem S1x2048x512 .f32) (harg9 : arg9.IsWhole) (arg10 : Memref sig .tc .vmem S1x2048x512 .f32) (harg10 : arg10.IsWhole) (arg11 : Memref sig .tc .vmem S1x1x8x512 .f32) (harg11 : arg11.IsWhole) (arg12 : Memref sig .tc .vmem S1x1x8x512 .f32) (harg12 : arg12.IsWhole) (v113 v115 : FVec Ideal S1x512 .f32) (v118 : IVec S8x512 1)

theorem trip_result (k : Fin k0_t1_loop.trips) (acc : FVec Ideal S8x512 .f32 × FVec Ideal S8x512 .f32) (f9 : BufTy.Contents (Elt Ideal) arg9.view.ty) (f10 : BufTy.Contents (Elt Ideal) arg10.view.ty) :
    tripR_k0_t1 (F := Ideal) 𝒱 c bd i arg2 harg2 arg3 harg3 arg4 harg4 arg5 harg5 arg6 harg6 arg7 harg7 arg8 harg8 arg9 harg9 arg10 harg10 arg11 harg11 arg12 harg12 v113 v115 v118 k acc f9 f10
      = (k0_pay6 (k0_pay12 v113 acc.1 (window (s := S1x2048x512) (arg9.view.read (Elt Ideal) f9) (k0_off1 k) ![1, 8, 512] (k0_off1_inb k))),
        k0_pay7 v115 acc.2 (window (s := S1x2048x512) (arg10.view.read (Elt Ideal) f10) (k0_off2 k) ![1, 8, 512] (k0_off2_inb k))) := by
  unfold tripR_k0_t1 trip_k0_t1
  rfl

theorem trip_pieces (k : Fin k0_t1_loop.trips) (acc : FVec Ideal S8x512 .f32 × FVec Ideal S8x512 .f32) (f9 : BufTy.Contents (Elt Ideal) arg9.view.ty) (f10 : BufTy.Contents (Elt Ideal) arg10.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 v113 v115 v118 k acc f9 f10
      = ([⟨Rect.unit (k0_off1 k) ![1, 8, 512] (k0_off1_inb k), k0_pay13 v113 v118 acc.1
            (window (s := S1x2048x512) (arg9.view.read (Elt Ideal) f9) (k0_off1 k) ![1, 8, 512] (k0_off1_inb k))⟩],
        [⟨Rect.unit (k0_off2 k) ![1, 8, 512] (k0_off2_inb k), k0_pay5 v115 v118 acc.2
            (window (s := S1x2048x512) (arg10.view.read (Elt Ideal) f10) (k0_off2 k) ![1, 8, 512] (k0_off2_inb k))⟩]) := by
  unfold tripL_k0_t1 trip_k0_t1
  rfl

variable (G9 : BufTy.Contents (Elt Ideal) arg9.view.ty) (G10 : BufTy.Contents (Elt Ideal) arg10.view.ty)
  (init : FVec Ideal S8x512 .f32 × FVec Ideal S8x512 .f32)

/-- The loop's state before trip `k`: the carried rows, and the stores of the trips before. -/
abbrev before (k : ℕ) := st_k0_t1 (F := Ideal) 𝒱 c bd i arg2 harg2 arg3 harg3 arg4 harg4 arg5 harg5 arg6 harg6 arg7 harg7 arg8 harg8 arg9 harg9 arg10 harg10 arg11 harg11 arg12 harg12 v113 v115 k0_pay42 G9 G10 init k

/-- The loop's two results, from what the rows hold and the carried rows at its entry. -/
theorem loop (d d' : ℕ → ℕ → Fin 512 → EReal) (u u' : ℕ → Fin 512 → EReal)
    (h0 : ∀ (b : ℕ) (hb : b < 4) (l : Fin 512), init.1 (ix2 ⟨b, by omega⟩ l) = u b l)
    (h0' : ∀ (b : ℕ) (hb : b < 4) (l : Fin 512), init.2 (ix2 ⟨b + 4, by omega⟩ l) = u' b l)
    (hd : ∀ (r : Fin 2048) (l : Fin 512), arg9.view.read (Elt Ideal) G9 (ix3 0 r l) = d (r.val / 4) (r.val % 4) l)
    (hd' : ∀ (r : Fin 2048) (l : Fin 512), arg10.view.read (Elt Ideal) G10 (ix3 0 r l) = d' (511 - r.val / 4) (r.val % 4) l) :
    ∀ k, k ≤ 256 →
      Fwd v113 (fun k => (before 𝒱 c bd i arg2 harg2 arg3 harg3 arg4 harg4 arg5 harg5 arg6 harg6 arg7 harg7 arg8 harg8 arg9 harg9 arg10 harg10 arg11 harg11 arg12 harg12 v113 v115 G9 G10 init k).1.1)
        (fun k => arg9.view.read (Elt Ideal) (arg9.view.writes (Elt Ideal) G9 (before 𝒱 c bd i arg2 harg2 arg3 harg3 arg4 harg4 arg5 harg5 arg6 harg6 arg7 harg7 arg8 harg8 arg9 harg9 arg10 harg10 arg11 harg11 arg12 harg12 v113 v115 G9 G10 init k).2.1)) d u k
      ∧ Rev v115 (fun k => (before 𝒱 c bd i arg2 harg2 arg3 harg3 arg4 harg4 arg5 harg5 arg6 harg6 arg7 harg7 arg8 harg8 arg9 harg9 arg10 harg10 arg11 harg11 arg12 harg12 v113 v115 G9 G10 init k).1.2)
        (fun k => arg10.view.read (Elt Ideal) (arg10.view.writes (Elt Ideal) G10 (before 𝒱 c bd i arg2 harg2 arg3 harg3 arg4 harg4 arg5 harg5 arg6 harg6 arg7 harg7 arg8 harg8 arg9 harg9 arg10 harg10 arg11 harg11 arg12 harg12 v113 v115 G9 G10 init k).2.2)) d' u' k
  | 0, _ => by
    refine ⟨⟨h0, fun r l => (hd r l).trans (if_neg (by omega)).symm⟩, ⟨h0', fun r l => (hd' r l).trans (if_neg (by omega)).symm⟩⟩
  | k + 1, hk => by
    obtain ⟨f, g⟩ := loop d d' u u' h0 h0' hd hd' k (by omega)
    have ht : k < k0_t1_loop.trips := by rw [trips_eq]; omega
    have e := st_k0_t1_succ (F := Ideal) 𝒱 c bd i arg2 harg2 arg3 harg3 arg4 harg4 arg5 harg5 arg6 harg6 arg7 harg7 arg8 harg8 arg9 harg9 arg10 harg10 arg11 harg11 arg12 harg12 v113 v115 k0_pay42 G9 G10 init ⟨k, ht⟩
    rw [trip_result, trip_pieces] at e
    refine ⟨Fwd.next (k := ⟨k, ht⟩) f ?_ ?_, Rev.next (k := ⟨k, ht⟩) g ?_ ?_⟩
    · exact congrArg (fun q => q.1.1) e
    · refine (congrArg (fun q => arg9.view.read (Elt Ideal) (arg9.view.writes (Elt Ideal) G9 q.2.1)) e).trans ?_
      exact View.read_writes_cons_put arg9.view G9 _ _ _ rfl
    · exact congrArg (fun q => q.1.2) e
    · refine (congrArg (fun q => arg10.view.read (Elt Ideal) (arg10.view.writes (Elt Ideal) G10 q.2.2)) e).trans ?_
      exact View.read_writes_cons_put arg10.view G10 _ _ _ rfl

end Trips

end Cert.Proof.Scan

end
-- ==== Proof.ScanBlock.lean ====
/-
  What one grid point of the kernel leaves in its four outputs: the states of its chains, from its input blocks.
-/
module

public import proofs.«01_k».proof.Proof.ScanLoop

@[expose] public section

set_option maxRecDepth 16384

noncomputable section

open Idealize.ShloMosaic Idealize.ShloMosaic.TcCoe Idealize.ShloMosaic.Tactic Idealize.SL.Sem
open VecWindow

namespace Cert.Proof.Scan

open Cert.KernelIdeal Cert.KernelIdeal.Gen

section Loads

/-- 256 rows of a point's input rows. -/
theorem load_rows (v : Memref sig .tc .vmem S1x2048x1024 .bf16) (hv : v.IsWhole) (x : Vec Ideal S1x2048x1024 .bf16) (o : ℕ) (inb) :
    View.readAt (Elt Ideal) v.view (Rect.unit (s := S1x2048x1024) ![0, o, 0] ![1, 256, 1024] inb).toLoadRect (hv.unread x)
      = fun y : S1x256x1024.Idx => x (ix3 0 ⟨o + (y 1).val, by have h : (y 1).val < 256 := (y 1).isLt; have h' : o + 256 ≤ 2048 := inb 1; omega⟩ (y 2)) := by
  rw [View.readAt_unit v.view _ inb rfl inb, hv.read_unread]
  funext y
  unfold window
  refine congrArg x (funext fun a => Fin.ext ?_)
  match a with
  | 0 => show 0 + 1 * (y 0).val = 0; have h : (y 0).val < 1 := (y 0).isLt; omega
  | 1 => show o + 1 * (y 1).val = o + (y 1).val; omega
  | 2 => show 0 + 1 * (y 2).val = (y 2).val; omega

/-- All of a point's weights. -/
theorem load_weights (v : Memref sig .tc .vmem S1x1x1024x512 .bf16) (hv : v.IsWhole) (x : Vec Ideal S1x1x1024x512 .bf16) (inb) :
    View.readAt (Elt Ideal) v.view (Rect.unit (s := S1x1x1024x512) ![0, 0, 0, 0] ![1, 1, 1024, 512] inb).toLoadRect (hv.unread x) = x :=
  (View.readAt_full v.view (hv.unread x) inb).trans (hv.read_unread x)

/-- All of a point's decay. -/
theorem load_decay (v : Memref sig .tc .vmem S1x1x1x512 .f32) (hv : v.IsWhole) (x : Vec Ideal S1x1x1x512 .f32) (inb) :
    View.readAt (Elt Ideal) v.view (Rect.unit (s := S1x1x1x512) ![0, 0, 0, 0] ![1, 1, 1, 512] inb).toLoadRect (hv.unread x) = x :=
  (View.readAt_full v.view (hv.unread x) inb).trans (hv.read_unread x)

/-- All of a point's first states. -/
theorem load_init (v : Memref sig .tc .vmem S1x1x8x512 .f32) (hv : v.IsWhole) (x : Vec Ideal S1x1x8x512 .f32) (inb) :
    View.readAt (Elt Ideal) v.view (Rect.unit (s := S1x1x8x512) ![0, 0, 0, 0] ![1, 1, 8, 512] inb).toLoadRect (hv.unread x) = x :=
  (View.readAt_full v.view (hv.unread x) inb).trans (hv.read_unread x)

end Loads

/-- The product of a point's rows and weights. -/
abbrev drive (x : Vec Ideal S1x2048x1024 .bf16) (w : Vec Ideal S1x1x1024x512 .bf16) : S1x2048x512.Idx → EReal :=
  fun y => ∑ k : Fin 1024, x (ix3 0 (y 1) k) * w (ix4 0 0 k (y 2))

/-- Its row `n`, by number. -/
def driveAt (x : Vec Ideal S1x2048x1024 .bf16) (w : Vec Ideal S1x1x1024x512 .bf16) (n : ℕ) (l : Fin 512) : EReal :=
  if h : n < 2048 then ∑ k : Fin 1024, x (ix3 0 ⟨n, h⟩ k) * w (ix4 0 0 k l) else 0

theorem driveAt_row (x : Vec Ideal S1x2048x1024 .bf16) (w : Vec Ideal S1x1x1024x512 .bf16) (r : Fin 2048) (l : Fin 512) (n : ℕ) (h : n = r.val) :
    drive x w (ix3 0 r l) = driveAt x w n l := by
  subst h
  unfold driveAt
  rw [dif_pos r.isLt]
  rfl

theorem product_at (x : Vec Ideal S1x2048x1024 .bf16) (w : Vec Ideal S1x1x1024x512 .bf16) {r r' : Fin 2048} {l l' : Fin 512} (h : r = r') (h' : l = l') :
    ∑ k : Fin 1024, x (ix3 0 r k) * w (ix4 0 0 k l) = ∑ k : Fin 1024, x (ix3 0 r' k) * w (ix4 0 0 k l') := by rw [h, h']

section Inputs

variable (c : Dev nD) (i : grid0.Coords) (arg2 : Memref sig .tc .vmem S1x2048x1024 .bf16) (harg2 : arg2.IsWhole) (arg3 : Memref sig .tc .vmem S1x1x1024x512 .bf16) (harg3 : arg3.IsWhole) (arg4 : Memref sig .tc .vmem S1x1x1024x512 .bf16) (harg4 : arg4.IsWhole) (arg5 : Memref sig .tc .vmem S1x1x1x512 .f32) (harg5 : arg5.IsWhole) (arg6 : Memref sig .tc .vmem S1x1x1x512 .f32) (harg6 : arg6.IsWhole) (arg7 : Memref sig .tc .vmem S1x1x8x512 .f32) (harg7 : arg7.IsWhole) (arg8 : Memref sig .tc .vmem S1x1x8x512 .f32) (harg8 : arg8.IsWhole) (arg9 : Memref sig .tc .vmem S1x2048x512 .f32) (harg9 : arg9.IsWhole) (arg10 : Memref sig .tc .vmem S1x2048x512 .f32) (harg10 : arg10.IsWhole) (arg11 : Memref sig .tc .vmem S1x1x8x512 .f32) (harg11 : arg11.IsWhole) (arg12 : Memref sig .tc .vmem S1x1x8x512 .f32) (harg12 : arg12.IsWhole)
  (x0 : Vec Ideal S1x2048x1024 .bf16) (x1 : Vec Ideal S1x1x1024x512 .bf16) (x2 : Vec Ideal S1x1x1024x512 .bf16) (x3 : Vec Ideal S1x1x1x512 .f32) (x4 : Vec Ideal S1x1x1x512 .f32) (x5 : Vec Ideal S1x1x8x512 .f32) (x6 : Vec Ideal S1x1x8x512 .f32)

theorem pieces_fwd : ∀ p ∈ kernelRun0_A.sl.H7_8 (F := Ideal) c arg2 harg2 arg3 harg3 x0 x1,
    ∀ x : p.1.shape.Idx, p.2 x = drive x0 x1 (p.1.emb x) := by
  unfold kernelRun0_A.sl.H7_8
  dsimp only
  simp only [kernelRun0_A.sl.r, kernelRun0_A.sl.r_1, kernelRun0_A.sl.r_2, kernelRun0_A.sl.r_3, load_rows, load_weights]
  intro p hp
  simp only [List.mem_cons, List.not_mem_nil, or_false] at hp
  rcases hp with rfl | rfl | rfl | rfl | rfl | rfl | rfl | rfl <;> intro x <;>
    pointwise [k0_pay38, k0_pay37, k0_pay34, k0_pay33, k0_pay31, k0_pay30, k0_pay28, k0_pay27, k0_pay25, k0_pay24, k0_pay23, k0_pay21, k0_pay20, k0_pay18, k0_pay17, k0_pay15, k0_pay14, drive]
  all_goals
    refine product_at x0 x1 (Fin.ext ?_) (Fin.ext ?_)
    · first
        | exact congrArg (_ + ·) (Nat.one_mul _).symm
        | exact ((Nat.zero_add _).trans (Nat.one_mul _)).symm
    · exact ((Nat.zero_add _).trans (Nat.one_mul _)).symm

theorem cover_fwd (y : S1x2048x512.Idx) : ∃ p ∈ kernelRun0_A.sl.H7_8 (F := Ideal) c arg2 harg2 arg3 harg3 x0 x1, y ∈ p.1.set :=
  View.cover_of_tiledL _ ![1, 256, 512] (by sl_kernel_rfl) y

/-- What the loop finds in the rows. -/
theorem rows_fwd (v : View sig .tc .vmem S1x2048x512 .f32) (r : Fin 2048) (l : Fin 512) :
    v.read (Elt Ideal) (v.writes (Elt Ideal) v.junk (kernelRun0_A.sl.H7_8 (F := Ideal) c arg2 harg2 arg3 harg3 x0 x1)) (ix3 0 r l) = drive x0 x1 (ix3 0 r l) :=
  View.read_writes_apply_of_pieces v v.junk _ _ (pieces_fwd c arg2 harg2 arg3 harg3 x0 x1) _ (cover_fwd c arg2 harg2 arg3 harg3 x0 x1 _)

theorem pieces_rev : ∀ p ∈ kernelRun0_A.sl.H8_8 (F := Ideal) c arg2 harg2 arg4 harg4 x0 x2,
    ∀ x : p.1.shape.Idx, p.2 x = drive x0 x2 (p.1.emb x) := by
  unfold kernelRun0_A.sl.H8_8
  dsimp only
  simp only [kernelRun0_A.sl.r, kernelRun0_A.sl.r_1, kernelRun0_A.sl.r_2, kernelRun0_A.sl.r_3, load_rows, load_weights]
  intro p hp
  simp only [List.mem_cons, List.not_mem_nil, or_false] at hp
  rcases hp with rfl | rfl | rfl | rfl | rfl | rfl | rfl | rfl <;> intro x <;>
    pointwise [k0_pay39, k0_pay37, k0_pay36, k0_pay35, k0_pay33, k0_pay32, k0_pay30, k0_pay29, k0_pay27, k0_pay26, k0_pay23, k0_pay22, k0_pay20, k0_pay19, k0_pay17, k0_pay16, k0_pay14, drive]
  all_goals
    refine product_at x0 x2 (Fin.ext ?_) (Fin.ext ?_)
    · first
        | exact congrArg (_ + ·) (Nat.one_mul _).symm
        | exact ((Nat.zero_add _).trans (Nat.one_mul _)).symm
    · exact ((Nat.zero_add _).trans (Nat.one_mul _)).symm

theorem cover_rev (y : S1x2048x512.Idx) : ∃ p ∈ kernelRun0_A.sl.H8_8 (F := Ideal) c arg2 harg2 arg4 harg4 x0 x2, y ∈ p.1.set :=
  View.cover_of_tiledL _ ![1, 256, 512] (by sl_kernel_rfl) y

/-- What the loop finds in the rows. -/
theorem rows_rev (v : View sig .tc .vmem S1x2048x512 .f32) (r : Fin 2048) (l : Fin 512) :
    v.read (Elt Ideal) (v.writes (Elt Ideal) v.junk (kernelRun0_A.sl.H8_8 (F := Ideal) c arg2 harg2 arg4 harg4 x0 x2)) (ix3 0 r l) = drive x0 x2 (ix3 0 r l) :=
  View.read_writes_apply_of_pieces v v.junk _ _ (pieces_rev c arg2 harg2 arg4 harg4 x0 x2) _ (cover_rev c arg2 harg2 arg4 harg4 x0 x2 _)

theorem decay_fwd : (fun l => kernelRun0_A.sl.r_4 (F := Ideal) c arg5 harg5 x3 (ix2 0 l)) = fun l => x3 (ix4 0 0 0 l) := by
  unfold kernelRun0_A.sl.r_4
  simp only [load_decay]
  funext l
  pointwise [k0_pay40]

theorem decay_rev : (fun l => kernelRun0_A.sl.r_5 (F := Ideal) c arg6 harg6 x4 (ix2 0 l)) = fun l => x4 (ix4 0 0 0 l) := by
  unfold kernelRun0_A.sl.r_5
  simp only [load_decay]
  funext l
  pointwise [k0_pay41]

/-- A row of a point's first states, by number. -/
def firstAt (x : Vec Ideal S1x1x8x512 .f32) (b : ℕ) (l : Fin 512) : EReal := if h : b < 8 then x (ix4 0 0 ⟨b, h⟩ l) else 0

theorem first_fwd_at (b : ℕ) (hb : b < 4) (l : Fin 512) : k0_pay1 (kernelRun0_A.sl.v119 (F := Ideal) c arg7 harg7 x5) (ix2 ⟨b, by omega⟩ l) = firstAt x5 b l := by
  unfold kernelRun0_A.sl.v119
  simp only [load_init]
  pointwise [k0_pay1]
  unfold firstAt
  rw [dif_pos (show b < 8 by omega)]

theorem first_rev_at (b : ℕ) (hb : b < 4) (l : Fin 512) : k0_pay2 (kernelRun0_A.sl.v121 (F := Ideal) c arg8 harg8 x6) (ix2 ⟨b + 4, by omega⟩ l) = firstAt x6 b l := by
  unfold kernelRun0_A.sl.v121
  simp only [load_init]
  pointwise [k0_pay2]
  unfold firstAt
  rw [dif_pos (show b < 8 by omega)]
  refine congrArg x6 (congrArg (fun z => ix4 0 0 z l) (Fin.ext ?_))
  show (b + 4 + 8 - 4) % 8 = b
  omega

/-- The states of a point's forward chains. -/
abbrev fwdState : ℕ → ℕ → Fin 512 → EReal := state (fun l => x3 (ix4 0 0 0 l)) (firstAt x5) (fun j b l => driveAt x0 x1 (4 * j + b) l)

/-- The states of a point's backward chains, which take the rows from the last. -/
abbrev revState : ℕ → ℕ → Fin 512 → EReal := state (fun l => x4 (ix4 0 0 0 l)) (firstAt x6) (fun j b l => driveAt x0 x2 (4 * (511 - j) + b) l)

/-- A point's loop before trip `k`. -/
abbrev midway (k : ℕ) := before Variants.none c none i arg2 harg2 arg3 harg3 arg4 harg4 arg5 harg5 arg6 harg6 arg7 harg7 arg8 harg8 arg9 harg9 arg10 harg10 arg11 harg11 arg12 harg12
  (kernelRun0_A.sl.r_4 c arg5 harg5 x3) (kernelRun0_A.sl.r_5 c arg6 harg6 x4)
  (arg9.view.writes (Elt Ideal) arg9.view.junk (kernelRun0_A.sl.H7_8 c arg2 harg2 arg3 harg3 x0 x1))
  (arg10.view.writes (Elt Ideal) arg10.view.junk (kernelRun0_A.sl.H8_8 c arg2 harg2 arg4 harg4 x0 x2))
  (k0_pay1 (kernelRun0_A.sl.v119 c arg7 harg7 x5), k0_pay2 (kernelRun0_A.sl.v121 c arg8 harg8 x6)) k

/-- The loop of a point, at its end. -/
theorem ended : Fwd (kernelRun0_A.sl.r_4 c arg5 harg5 x3) (fun k => (midway c i arg2 harg2 arg3 harg3 arg4 harg4 arg5 harg5 arg6 harg6 arg7 harg7 arg8 harg8 arg9 harg9 arg10 harg10 arg11 harg11 arg12 harg12 x0 x1 x2 x3 x4 x5 x6 k).1.1)
      (fun k => arg9.view.read (Elt Ideal) (arg9.view.writes (Elt Ideal) (arg9.view.writes (Elt Ideal) arg9.view.junk (kernelRun0_A.sl.H7_8 c arg2 harg2 arg3 harg3 x0 x1)) (midway c i arg2 harg2 arg3 harg3 arg4 harg4 arg5 harg5 arg6 harg6 arg7 harg7 arg8 harg8 arg9 harg9 arg10 harg10 arg11 harg11 arg12 harg12 x0 x1 x2 x3 x4 x5 x6 k).2.1))
      (fun j b l => driveAt x0 x1 (4 * j + b) l) (firstAt x5) 256
    ∧ Rev (kernelRun0_A.sl.r_5 c arg6 harg6 x4) (fun k => (midway c i arg2 harg2 arg3 harg3 arg4 harg4 arg5 harg5 arg6 harg6 arg7 harg7 arg8 harg8 arg9 harg9 arg10 harg10 arg11 harg11 arg12 harg12 x0 x1 x2 x3 x4 x5 x6 k).1.2)
      (fun k => arg10.view.read (Elt Ideal) (arg10.view.writes (Elt Ideal) (arg10.view.writes (Elt Ideal) arg10.view.junk (kernelRun0_A.sl.H8_8 c arg2 harg2 arg4 harg4 x0 x2)) (midway c i arg2 harg2 arg3 harg3 arg4 harg4 arg5 harg5 arg6 harg6 arg7 harg7 arg8 harg8 arg9 harg9 arg10 harg10 arg11 harg11 arg12 harg12 x0 x1 x2 x3 x4 x5 x6 k).2.2))
      (fun j b l => driveAt x0 x2 (4 * (511 - j) + b) l) (firstAt x6) 256 :=
  loop Variants.none c none i arg2 harg2 arg3 harg3 arg4 harg4 arg5 harg5 arg6 harg6 arg7 harg7 arg8 harg8 arg9 harg9 arg10 harg10 arg11 harg11 arg12 harg12
  (kernelRun0_A.sl.r_4 c arg5 harg5 x3) (kernelRun0_A.sl.r_5 c arg6 harg6 x4)
  (arg9.view.writes (Elt Ideal) arg9.view.junk (kernelRun0_A.sl.H7_8 c arg2 harg2 arg3 harg3 x0 x1))
  (arg10.view.writes (Elt Ideal) arg10.view.junk (kernelRun0_A.sl.H8_8 c arg2 harg2 arg4 harg4 x0 x2))
  (k0_pay1 (kernelRun0_A.sl.v119 c arg7 harg7 x5), k0_pay2 (kernelRun0_A.sl.v121 c arg8 harg8 x6))
  (fun j b l => driveAt x0 x1 (4 * j + b) l) (fun j b l => driveAt x0 x2 (4 * (511 - j) + b) l) (firstAt x5) (firstAt x6)
  (first_fwd_at c arg7 harg7 x5) (first_rev_at c arg8 harg8 x6)
  (fun r l => (rows_fwd c arg2 harg2 arg3 harg3 x0 x1 arg9.view r l).trans (driveAt_row x0 x1 r l _ (by omega)))
  (fun r l => (rows_rev c arg2 harg2 arg4 harg4 x0 x2 arg10.view r l).trans (driveAt_row x0 x2 r l _ (by omega)))
  256 le_rfl

theorem out7_at (r : Fin 2048) (l : Fin 512) : out0_A_7 (F := Ideal) c i arg2 harg2 arg3 harg3 arg4 harg4 arg5 harg5 arg6 harg6 arg7 harg7 arg8 harg8 arg9 harg9 arg10 harg10 arg11 harg11 arg12 harg12 x0 x1 x2 x3 x4 x5 x6 (ix3 0 r l)
    = fwdState x0 x1 x3 x5 (r.val / 4) (r.val % 4) l := by
  unfold out0_A_7
  rw [View.read_writes_of_cover VO0_7 VO0_7.junk arg9.view arg9.view.junk _ (cover0_A_7 c i arg2 harg2 arg3 harg3 arg4 harg4 arg5 harg5 arg6 harg6 arg7 harg7 arg8 harg8 arg9 harg9 arg10 harg10 arg11 harg11 arg12 harg12 x0 x1 x2 x3 x4 x5 x6)]
  refine (congrFun (congrArg (arg9.view.read (Elt Ideal)) (View.writes_append ..)) _).trans ?_
  refine ((ended c i arg2 harg2 arg3 harg3 arg4 harg4 arg5 harg5 arg6 harg6 arg7 harg7 arg8 harg8 arg9 harg9 arg10 harg10 arg11 harg11 arg12 harg12 x0 x1 x2 x3 x4 x5 x6).1.rows r l).trans ((if_pos (by omega)).trans ?_)
  exact congrArg (fun a => state a (firstAt x5) (fun j b l => driveAt x0 x1 (4 * j + b) l) (r.val / 4) (r.val % 4) l) (decay_fwd c arg5 harg5 x3)

theorem out8_at (r : Fin 2048) (l : Fin 512) : out0_A_8 (F := Ideal) c i arg2 harg2 arg3 harg3 arg4 harg4 arg5 harg5 arg6 harg6 arg7 harg7 arg8 harg8 arg9 harg9 arg10 harg10 arg11 harg11 arg12 harg12 x0 x1 x2 x3 x4 x5 x6 (ix3 0 r l)
    = revState x0 x2 x4 x6 (511 - r.val / 4) (r.val % 4) l := by
  unfold out0_A_8
  rw [View.read_writes_of_cover VO0_8 VO0_8.junk arg10.view arg10.view.junk _ (cover0_A_8 c i arg2 harg2 arg3 harg3 arg4 harg4 arg5 harg5 arg6 harg6 arg7 harg7 arg8 harg8 arg9 harg9 arg10 harg10 arg11 harg11 arg12 harg12 x0 x1 x2 x3 x4 x5 x6)]
  refine (congrFun (congrArg (arg10.view.read (Elt Ideal)) (View.writes_append ..)) _).trans ?_
  refine ((ended c i arg2 harg2 arg3 harg3 arg4 harg4 arg5 harg5 arg6 harg6 arg7 harg7 arg8 harg8 arg9 harg9 arg10 harg10 arg11 harg11 arg12 harg12 x0 x1 x2 x3 x4 x5 x6).2.rows r l).trans ((if_pos (by omega)).trans ?_)
  exact congrArg (fun a => state a (firstAt x6) (fun j b l => driveAt x0 x2 (4 * (511 - j) + b) l) (511 - r.val / 4) (r.val % 4) l) (decay_rev c arg6 harg6 x4)

theorem out9_at (b : ℕ) (hb : b < 4) (l : Fin 512) : out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 (ix4 0 0 ⟨b, by omega⟩ l)
    = fwdState x0 x1 x3 x5 512 b l := by
  unfold out0_A_9
  unfold kernelRun0_A
  dsimp only
  refine (congrFun (View.read_writes_full VO0_9 VO0_9.junk _ _ []) _).trans ?_
  pointwise [k0_pay8]
  refine ((ended c i arg2 harg2 arg3 harg3 arg4 harg4 arg5 harg5 arg6 harg6 arg7 harg7 arg8 harg8 arg9 harg9 arg10 harg10 arg11 harg11 arg12 harg12 x0 x1 x2 x3 x4 x5 x6).1.carry b hb l).trans ?_
  exact congrArg (fun a => state a (firstAt x5) (fun j b l => driveAt x0 x1 (4 * j + b) l) 512 b l) (decay_fwd c arg5 harg5 x3)

theorem out10_at (b : ℕ) (hb : b < 4) (l : Fin 512) : out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 (ix4 0 0 ⟨b, by omega⟩ l)
    = revState x0 x2 x4 x6 512 b l := by
  unfold out0_A_10
  unfold kernelRun0_A
  dsimp only
  refine (congrFun (View.read_writes_full VO0_10 VO0_10.junk _ _ []) _).trans ?_
  pointwise [k0_pay9]
  refine Eq.trans ?_ (((ended c i arg2 harg2 arg3 harg3 arg4 harg4 arg5 harg5 arg6 harg6 arg7 harg7 arg8 harg8 arg9 harg9 arg10 harg10 arg11 harg11 arg12 harg12 x0 x1 x2 x3 x4 x5 x6).2.carry b hb l).trans
    (congrArg (fun a => state a (firstAt x6) (fun j b l => driveAt x0 x2 (4 * (511 - j) + b) l) 512 b l) (decay_rev c arg6 harg6 x4)))
  refine congrArg (fun z => (midway c i arg2 harg2 arg3 harg3 arg4 harg4 arg5 harg5 arg6 harg6 arg7 harg7 arg8 harg8 arg9 harg9 arg10 harg10 arg11 harg11 arg12 harg12 x0 x1 x2 x3 x4 x5 x6 256).1.2 (ix2 z l)) (Fin.ext ?_)
  show (b + 8 - 4) % 8 = b + 4
  omega

end Inputs

end Cert.Proof.Scan

end
-- ==== Proof.ScanWhole.lean ====
/-
  The recurrence call's results, as arrays over the call's arguments: the states of the forward and the backward chains of
  every batch row and half.
-/
module

public import proofs.«01_k».proof.Proof.ScanBlock

@[expose] public section

set_option maxRecDepth 16384

noncomputable section

open Idealize.ShloMosaic Idealize.ShloMosaic.TcCoe Idealize.ShloMosaic.Tactic Idealize.SL.Sem
open Idealize.ShloMosaic.Pipeline (Dat)

namespace Cert.Proof.Scan

open Cert.KernelIdeal Cert.KernelIdeal.Gen

section Arrays

variable (x : FVec Ideal S4x2048x1024 .bf16) (w : FVec Ideal S4x2x1024x512 .bf16) (a : FVec Ideal S4x2x1x512 .f32)
  (i : FVec Ideal S4x2x8x512 .f32) (B : Fin 4) (h : Fin 2)

/-- Row `n` of the product of a batch row's inputs and a half's weights. -/
def driveW (n : ℕ) (l : Fin 512) : EReal := if hn : n < 2048 then ∑ k : Fin 1024, x (ix3 B ⟨n, hn⟩ k) * w (ix4 B h k l) else 0

/-- The first states, by number. -/
def firstW (b : ℕ) (l : Fin 512) : EReal := if hb : b < 8 then i (ix4 B h ⟨b, hb⟩ l) else 0

/-- The states of the forward chains. -/
def fwdW : ℕ → ℕ → Fin 512 → EReal := state (fun l => a (ix4 B h 0 l)) (firstW i B h) (fun j b l => driveW x w B h (4 * j + b) l)

/-- The states of the backward chains. -/
def revW : ℕ → ℕ → Fin 512 → EReal := state (fun l => a (ix4 B h 0 l)) (firstW i B h) (fun j b l => driveW x w B h (4 * (511 - j) + b) l)

end Arrays

/-- The half of a column, and its place there. -/
abbrev half (y : Fin 1024) : Fin 2 := ⟨y.val / 512, by omega⟩
abbrev lane (y : Fin 1024) : Fin 512 := ⟨y.val % 512, by omega⟩

end Cert.Proof.Scan

namespace Cert.KernelIdeal.Whole

open Cert.KernelIdeal Cert.KernelIdeal.Gen Cert.Proof.Scan

variable (m : (ℓ : Loc nD τ sig) → Buf (Elt Ideal) ℓ)

/-- The index maps of all the windows, in the point's number. -/
theorem idx : ∀ t : Fin cfg0.N, win0_0.index t = ![t.val / 2, 0, 0] ∧ win0_1.index t = ![t.val / 2, t.val % 2, 0, 0]
    ∧ win0_2.index t = ![t.val / 2, t.val % 2, 0, 0] ∧ win0_3.index t = ![t.val / 2, t.val % 2, 0, 0] ∧ win0_4.index t = ![t.val / 2, t.val % 2, 0, 0]
    ∧ win0_5.index t = ![t.val / 2, t.val % 2, 0, 0] ∧ win0_6.index t = ![t.val / 2, t.val % 2, 0, 0] ∧ win0_7.index t = ![t.val / 2, 0, t.val % 2]
    ∧ win0_8.index t = ![t.val / 2, 0, t.val % 2] ∧ win0_9.index t = ![t.val / 2, t.val % 2, 0, 0] ∧ win0_10.index t = ![t.val / 2, t.val % 2, 0, 0] :=
  (by decide +kernel : ∀ t : Fin grid0.N, _)

/-- The batch row and the half of a point. -/
abbrev bat (t : Fin cfg0.N) : Fin 4 := ⟨t.val / 2, by have h : t.val < 8 := t.isLt; omega⟩
abbrev hlf (t : Fin cfg0.N) : Fin 2 := ⟨t.val % 2, by omega⟩

section Blocks

variable (c : Dev nD) (t : Fin cfg0.N)

theorem blk0 : iblk m c 0 t = fun y : S1x2048x1024.Idx => (m ((c.tc : Thread nD τ).loc main_arg0) : FVec Ideal S4x2048x1024 .bf16) (ix3 (bat t) (y 1) (y 2)) := by
  funext y; blk_point [iblk, V, idx t]
theorem blk1 : iblk m c 1 t = fun y : S1x1x1024x512.Idx => (m ((c.tc : Thread nD τ).loc main_arg1) : FVec Ideal S4x2x1024x512 .bf16) (ix4 (bat t) (hlf t) (y 2) (y 3)) := by
  funext y; blk_point [iblk, V, idx t]
theorem blk2 : iblk m c 2 t = fun y : S1x1x1024x512.Idx => (m ((c.tc : Thread nD τ).loc main_arg2) : FVec Ideal S4x2x1024x512 .bf16) (ix4 (bat t) (hlf t) (y 2) (y 3)) := by
  funext y; blk_point [iblk, V, idx t]
theorem blk3 : iblk m c 3 t = fun y : S1x1x1x512.Idx => (m ((c.tc : Thread nD τ).loc main_arg3) : FVec Ideal S4x2x1x512 .f32) (ix4 (bat t) (hlf t) 0 (y 3)) := by
  funext y; blk_point [iblk, V, idx t]
theorem blk4 : iblk m c 4 t = fun y : S1x1x1x512.Idx => (m ((c.tc : Thread nD τ).loc main_arg4) : FVec Ideal S4x2x1x512 .f32) (ix4 (bat t) (hlf t) 0 (y 3)) := by
  funext y; blk_point [iblk, V, idx t]
theorem blk5 : iblk m c 5 t = fun y : S1x1x8x512.Idx => (m ((c.tc : Thread nD τ).loc main_arg5) : FVec Ideal S4x2x8x512 .f32) (ix4 (bat t) (hlf t) (y 2) (y 3)) := by
  funext y; blk_point [iblk, V, idx t]
theorem blk6 : iblk m c 6 t = fun y : S1x1x8x512.Idx => (m ((c.tc : Thread nD τ).loc main_arg6) : FVec Ideal S4x2x8x512 .f32) (ix4 (bat t) (hlf t) (y 2) (y 3)) := by
  funext y; blk_point [iblk, V, idx t]

theorem emb7 (y : S1x2048x512.Idx) : ((cfg0.win 7).blk t).view.emb y
    = (ix3 (bat t) (y 1) ⟨512 * (t.val % 2) + (y 2).val, by have h : (y 2).val < 512 := (y 2).isLt; omega⟩ : S4x2048x1024.Idx) := by
  blk_ext [idx t]
theorem emb8 (y : S1x2048x512.Idx) : ((cfg0.win 8).blk t).view.emb y
    = (ix3 (bat t) (y 1) ⟨512 * (t.val % 2) + (y 2).val, by have h : (y 2).val < 512 := (y 2).isLt; omega⟩ : S4x2048x1024.Idx) := by
  blk_ext [idx t]
theorem emb9 (y : S1x1x8x512.Idx) : ((cfg0.win 9).blk t).view.emb y = (ix4 (bat t) (hlf t) (y 2) (y 3) : S4x2x8x512.Idx) := by
  blk_ext [idx t]
theorem emb10 (y : S1x1x8x512.Idx) : ((cfg0.win 10).blk t).view.emb y = (ix4 (bat t) (hlf t) (y 2) (y 3) : S4x2x8x512.Idx) := by
  blk_ext [idx t]

end Blocks

/-- The states of the forward chains over the call's arguments. -/
abbrev fwd (c : Dev nD) : Fin 4 → Fin 2 → ℕ → ℕ → Fin 512 → EReal :=
  fwdW (m ((c.tc : Thread nD τ).loc main_arg0)) (m ((c.tc : Thread nD τ).loc main_arg1)) (m ((c.tc : Thread nD τ).loc main_arg3)) (m ((c.tc : Thread nD τ).loc main_arg5))

/-- The states of the backward chains over the call's arguments. -/
abbrev rev (c : Dev nD) : Fin 4 → Fin 2 → ℕ → ℕ → Fin 512 → EReal :=
  revW (m ((c.tc : Thread nD τ).loc main_arg0)) (m ((c.tc : Thread nD τ).loc main_arg2)) (m ((c.tc : Thread nD τ).loc main_arg4)) (m ((c.tc : Thread nD τ).loc main_arg6))

theorem fwd_point (c : Dev nD) (t : Fin cfg0.N) :
    fwdState (iblk m c 0 t) (iblk m c 1 t) (iblk m c 3 t) (iblk m c 5 t) = fwd m c (bat t) (hlf t) := by
  rw [blk0, blk1, blk3, blk5]
  rfl

theorem rev_point (c : Dev nD) (t : Fin cfg0.N) :
    revState (iblk m c 0 t) (iblk m c 2 t) (iblk m c 4 t) (iblk m c 6 t) = rev m c (bat t) (hlf t) := by
  rw [blk0, blk2, blk4, blk6]
  rfl

/-- The arrays of the forward and the backward states. -/
def fwdRows (c : Dev nD) : S4x2048x1024.Idx → EReal :=
  fun y => fwd m c (y 0) (half (y 2)) ((y 1).val / 4) ((y 1).val % 4) (lane (y 2))
def revRows (c : Dev nD) : S4x2048x1024.Idx → EReal :=
  fun y => rev m c (y 0) (half (y 2)) (511 - (y 1).val / 4) ((y 1).val % 4) (lane (y 2))

/-- The grid point of a batch row and a half. -/
abbrev pt (B : Fin 4) (h : Fin 2) : Fin cfg0.N := ⟨2 * B.val + h.val, by show _ < 8; omega⟩

/-- The arrays of last states, every row as the points leave it. -/
def fwdLast (c : Dev nD) : S4x2x8x512.Idx → EReal := fun y => (outsAt0 (F := Ideal) m c (pt (y 0) (y 1))).2.2.1 (ix4 0 0 (y 2) (y 3))
def revLast (c : Dev nD) : S4x2x8x512.Idx → EReal := fun y => (outsAt0 (F := Ideal) m c (pt (y 0) (y 1))).2.2.2 (ix4 0 0 (y 2) (y 3))

theorem row_ix (y : S1x2048x512.Idx) : y = ix3 0 (y 1) (y 2) := by
  funext a
  match a with
  | 0 => exact Subsingleton.elim (α := Fin 1) _ _
  | 1 => rfl
  | 2 => rfl

theorem last_ix (y : S1x1x8x512.Idx) : y = ix4 0 0 (y 2) (y 3) := by
  funext a
  match a with
  | 0 => exact Subsingleton.elim (α := Fin 1) _ _
  | 1 => exact Subsingleton.elim (α := Fin 1) _ _
  | 2 => rfl
  | 3 => rfl

theorem half_at (h : Fin 2) (l : Fin 512) (hb) : half ⟨512 * h.val + l.val, hb⟩ = h := Fin.ext (by show (512 * h.val + l.val) / 512 = h.val; omega)
theorem lane_at (h : Fin 2) (l : Fin 512) (hb) : lane ⟨512 * h.val + l.val, hb⟩ = l := Fin.ext (by show (512 * h.val + l.val) % 512 = l.val; omega)

theorem pt_at (t : Fin cfg0.N) : pt (bat t) (hlf t) = t := Fin.ext (by show 2 * (t.val / 2) + t.val % 2 = t.val; omega)

theorem fwdRows_at (c : Dev nD) (B : Fin 4) (h : Fin 2) (r : Fin 2048) (l : Fin 512) (hb) :
    fwdRows m c (ix3 B r ⟨512 * h.val + l.val, hb⟩) = fwd m c B h (r.val / 4) (r.val % 4) l := by
  show fwd m c B (half ⟨512 * h.val + l.val, _⟩) _ _ (lane ⟨512 * h.val + l.val, _⟩) = _
  rw [half_at, lane_at]
  rfl

theorem out7_point (c : Dev nD) (t : Fin cfg0.N) (r : Fin 2048) (l : Fin 512) :
    (outsAt0 (F := Ideal) m c t).1 (ix3 0 r l) = fwd m c (bat t) (hlf t) (r.val / 4) (r.val % 4) l := by
  unfold outsAt0
  dsimp only
  rw [out7_at, fwd_point]

theorem final7 (c : Dev nD) : (dats m 0 c).arrAt 7 cfg0.N = fwdRows m c := by
  refine (dats m 0 c).arrAt_eq_of_covers 7 _ (by decide +kernel) fun t hf y => ?_
  blk_simp
  rw [after0_7, emb7]
  exact ((congrArg (outsAt0 (F := Ideal) m c t).1 (row_ix y)).trans (out7_point m c t (y 1) (y 2))).trans
    (fwdRows_at m c (bat t) (hlf t) (y 1) (y 2) _).symm

theorem revRows_at (c : Dev nD) (B : Fin 4) (h : Fin 2) (r : Fin 2048) (l : Fin 512) (hb) :
    revRows m c (ix3 B r ⟨512 * h.val + l.val, hb⟩) = rev m c B h (511 - r.val / 4) (r.val % 4) l := by
  show rev m c B (half ⟨512 * h.val + l.val, _⟩) _ _ (lane ⟨512 * h.val + l.val, _⟩) = _
  rw [half_at, lane_at]
  rfl

theorem out8_point (c : Dev nD) (t : Fin cfg0.N) (r : Fin 2048) (l : Fin 512) :
    (outsAt0 (F := Ideal) m c t).2.1 (ix3 0 r l) = rev m c (bat t) (hlf t) (511 - r.val / 4) (r.val % 4) l := by
  unfold outsAt0
  dsimp only
  rw [out8_at, rev_point]

theorem final8 (c : Dev nD) : (dats m 0 c).arrAt 8 cfg0.N = revRows m c := by
  refine (dats m 0 c).arrAt_eq_of_covers 8 _ (by decide +kernel) fun t hf y => ?_
  blk_simp
  rw [after0_8, emb8]
  exact ((congrArg (outsAt0 (F := Ideal) m c t).2.1 (row_ix y)).trans (out8_point m c t (y 1) (y 2))).trans
    (revRows_at m c (bat t) (hlf t) (y 1) (y 2) _).symm

theorem final9 (c : Dev nD) : (dats m 0 c).arrAt 9 cfg0.N = fwdLast m c := by
  refine (dats m 0 c).arrAt_eq_of_covers 9 _ (by decide +kernel) fun t hf y => ?_
  blk_simp
  rw [after0_9, emb9]
  show _ = (outsAt0 (F := Ideal) m c (pt (bat t) (hlf t))).2.2.1 (ix4 0 0 (y 2) (y 3))
  rw [pt_at]
  exact congrArg _ (last_ix y)

theorem final10 (c : Dev nD) : (dats m 0 c).arrAt 10 cfg0.N = revLast m c := by
  refine (dats m 0 c).arrAt_eq_of_covers 10 _ (by decide +kernel) fun t hf y => ?_
  blk_simp
  rw [after0_10, emb10]
  show _ = (outsAt0 (F := Ideal) m c (pt (bat t) (hlf t))).2.2.2 (ix4 0 0 (y 2) (y 3))
  rw [pt_at]
  exact congrArg _ (last_ix y)

theorem pt_bat (B : Fin 4) (h : Fin 2) : bat (pt B h) = B := Fin.ext (by show (2 * B.val + h.val) / 2 = B.val; omega)
theorem pt_hlf (B : Fin 4) (h : Fin 2) : hlf (pt B h) = h := Fin.ext (by show (2 * B.val + h.val) % 2 = h.val; omega)

/-- The first four rows are the last states of the chains. -/
theorem fwdLast_row (c : Dev nD) (B : Fin 4) (h : Fin 2) (b : Fin 8) (hb : b.val < 4) (l : Fin 512) :
    fwdLast m c (ix4 B h b l) = fwd m c B h 512 b.val l := by
  show (outsAt0 (F := Ideal) m c (pt B h)).2.2.1 (ix4 0 0 b l) = _
  unfold outsAt0
  dsimp only
  rw [out9_at _ _ _ _ _ _ _ _ _ _ _ _ _ _ _ _ _ _ _ _ _ _ _ _ _ _ _ _ _ _ _ b.val hb l, fwd_point, pt_bat, pt_hlf]

theorem revLast_row (c : Dev nD) (B : Fin 4) (h : Fin 2) (b : Fin 8) (hb : b.val < 4) (l : Fin 512) :
    revLast m c (ix4 B h b l) = rev m c B h 512 b.val l := by
  show (outsAt0 (F := Ideal) m c (pt B h)).2.2.2 (ix4 0 0 b l) = _
  unfold outsAt0
  dsimp only
  rw [out10_at _ _ _ _ _ _ _ _ _ _ _ _ _ _ _ _ _ _ _ _ _ _ _ _ _ _ _ _ _ _ _ b.val hb l, rev_point, pt_bat, pt_hlf]

end Cert.KernelIdeal.Whole

end
-- ==== Proof.ScanRun.lean ====
/- The reference recurrence as iterated steps: the memory before trip `k` of the host loop holds the `k`-th state of the
   sequence started at the arguments' state and continued by the step, and the results are read from state 512. -/
module

public import proofs.«01_k».proof.Proof.Gen.ReferenceIdeal.Run
public import proofs.«01_k».proof.Proof.Gen.ReferenceIdeal.Step

@[expose] public section

noncomputable section

namespace Cert.Proof.ScanRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The contents `V` are those of state `s` at trip `j`. -/
structure At (V : Valuation τ sig (Elt F)) (s : State F) (j : ℕ) : Prop where
  inF : V (Proc.devRef .tc main_v16_0) = s.main_v16_0
  inR : V (Proc.devRef .tc main_v16_1) = s.main_v16_1
  decF : V (Proc.devRef .tc main_v16_2) = s.main_v16_2
  decR : V (Proc.devRef .tc main_v16_3) = s.main_v16_3
  num : V (Proc.devRef .tc main_v16_4) = constantI S_ 32 (BitVec.ofNat 32 j)
  curF : V (Proc.devRef .tc main_v16_5) = s.main_v16_5
  curR : V (Proc.devRef .tc main_v16_6) = s.main_v16_6
  outF : V (Proc.devRef .tc main_v16_7) = s.main_v16_7
  outR : V (Proc.devRef .tc main_v16_8) = s.main_v16_8

variable {V : Valuation τ sig (Elt F)} {s : State F} {j : ℕ}

theorem part28 (h : At V s j) : res_main_while0b_v28 V = b12 j s := by
  unfold res_main_while0b_v28 b12
  rw [h.decF]

theorem part29 (h : At V s j) : res_main_while0b_v29 V = b13 j s := by
  unfold res_main_while0b_v29 b13
  rw [h.decF]

theorem part30 (h : At V s j) : res_main_while0b_v30 V = b14 j s := by
  unfold res_main_while0b_v30 b14
  rw [h.curF]

theorem part31 (h : At V s j) : res_main_while0b_v31 V = b15 j s := by
  unfold res_main_while0b_v31 b15
  rw [h.curF]

set_option maxRecDepth 8192 in
theorem next5 (h : At V s j) : Value.step_main_v16_5 V = b27 j s := by
  unfold Value.step_main_v16_5
  rw [part28 h, part29 h, part30 h, part31 h, h.inF, h.num]
  rfl

theorem part44 (h : At V s j) : res_main_while0b_v44 V = b28 j s := by
  unfold res_main_while0b_v44 b28
  rw [h.decR]

theorem part45 (h : At V s j) : res_main_while0b_v45 V = b29 j s := by
  unfold res_main_while0b_v45 b29
  rw [h.decR]

theorem part46 (h : At V s j) : res_main_while0b_v46 V = b30 j s := by
  unfold res_main_while0b_v46 b30
  rw [h.curR]

theorem part47 (h : At V s j) : res_main_while0b_v47 V = b31 j s := by
  unfold res_main_while0b_v47 b31
  rw [h.curR]

set_option maxRecDepth 8192 in
theorem next6 (h : At V s j) : Value.step_main_v16_6 V = b43 j s := by
  unfold Value.step_main_v16_6
  rw [part44 h, part45 h, part46 h, part47 h, h.inR, h.num]
  rfl

set_option maxRecDepth 8192 in
theorem next7 (h : At V s j) : Value.step_main_v16_7 V = b49 j s := by
  unfold Value.step_main_v16_7
  simp only [h.curF, h.outF, h.num]
  rfl

set_option maxRecDepth 8192 in
theorem next8 (h : At V s j) : Value.step_main_v16_8 V = b55 j s := by
  unfold Value.step_main_v16_8
  simp only [h.curR, h.outR, h.num]
  rfl

theorem next4 (h : At V s j) : step_main_v16_4 V = constantI S_ 32 (BitVec.ofNat 32 (j + 1)) := by
  unfold step_main_v16_4
  rw [h.num]
  funext i
  show BitVec.ofNat 32 j + 1#32 = BitVec.ofNat 32 (j + 1)
  rw [BitVec.ofNat_add]

/-- A trip moves the contents on by one step. -/
theorem At.next (h : At V s j) : At (STEP V) (step j s) (j + 1) :=
  ⟨(STEP_main_v16_0 V).trans h.inF, (STEP_main_v16_1 V).trans h.inR, (STEP_main_v16_2 V).trans h.decF,
    (STEP_main_v16_3 V).trans h.decR, (STEP_main_v16_4 V).trans (next4 h),
    ((STEP_main_v16_5 V).trans (next5 h)).trans (Step.step_main_v16_5 j s).symm,
    ((STEP_main_v16_6 V).trans (next6 h)).trans (Step.step_main_v16_6 j s).symm,
    ((STEP_main_v16_7 V).trans (next7 h)).trans (Step.step_main_v16_7 j s).symm,
    ((STEP_main_v16_8 V).trans (next8 h)).trans (Step.step_main_v16_8 j s).symm⟩

variable (m : (ℓ : Loc nD τ sig) → Buf (Elt F) ℓ) (c : Dev nD)

/-- The state before trip `n`, of the memory the run starts from. -/
def seq : ℕ → State F
  | 0 => init (m ((c.tc : Thread nD τ).loc main_arg3)) (m ((c.tc : Thread nD τ).loc main_arg4)) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
  | n + 1 => step n (seq n)

set_option maxRecDepth 65536 in
set_option maxHeartbeats 800000 in
theorem at_entry : At (entryContents preI m c) (seq m c 0) 0 := by
  constructor <;> (simp only [entryContents, afterL_cons, afterL_nil]; after_reads_simp) <;> rfl

theorem at_trip : ∀ k, At (STEP^[k] (entryContents preI m c)) (seq m c k) k
  | 0 => at_entry m c
  | k + 1 => by
    rw [Function.iterate_succ_apply']
    exact (at_trip k).next

set_option maxRecDepth 8192 in
/-- The results of the reference are those of state 512, and its arguments are kept. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v18) = R_main_v18 (seq m c 512)
      ∧ r.2.mem ((c.tc : Thread nD τ).loc main_v21) = R_main_v21 (seq m c 512)
      ∧ r.2.mem ((c.tc : Thread nD τ).loc main_v23) = R_main_v23 (seq m c 512)
      ∧ r.2.mem ((c.tc : Thread nD τ).loc main_v25) = R_main_v25 (seq m c 512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_) (Value.run m ρ)
  have e := at_trip m c 512
  obtain ⟨r1, r2, r3, r4, keep⟩ := h c
  refine ⟨r1.trans ?_, r2.trans ?_, r3.trans ?_, r4.trans ?_, keep⟩
  · unfold out_main_v18 R_main_v18; rw [e.outF]; rfl
  · unfold out_main_v21 R_main_v21; rw [e.outR]; rfl
  · unfold out_main_v23 R_main_v23; rw [e.curF]
  · unfold out_main_v25 R_main_v25; rw [e.curR]

end Cert.Proof.ScanRun

end
-- ==== Proof.ScanRef.lean ====
/-
  The reference's recurrence, trip by trip: its chunks of inputs, its carried states and its stored states are those of the
  call's arrays.
-/
module

public import proofs.«01_k».proof.Proof.ScanWhole
public import proofs.«01_k».proof.Proof.ScanRun
public import Idealize.ShloMosaic.Lib.DynamicIndex

@[expose] public section

set_option maxRecDepth 16384

noncomputable section

open Idealize.ShloMosaic Idealize.ShloMosaic.TcCoe Idealize.ShloMosaic.Tactic Idealize.SL.Sem

namespace Cert.Proof.ScanRef

open Cert.ReferenceIdeal Cert.ReferenceIdeal.Gen Cert.ReferenceIdeal.Step Cert.Proof.Scan

section Inputs

variable (x : FVec Ideal S4x2048x1024 .bf16) (w w' : FVec Ideal S4x2x1024x512 .bf16) (i i' : FVec Ideal S4x2x8x512 .f32)
  (J : Fin 512) (B : Fin 4) (h : Fin 2) (b : Fin 4) (l : Fin 512)

theorem drive_sum (n n' : ℕ) (hn : n < 2048) (e : n = n') :
    ∑ k : Fin 1024, w (ix4 B h k l) * x (ix3 B ⟨n, hn⟩ k) = driveW x w B h n' l := by
  subst e
  unfold driveW
  rw [dif_pos hn]
  exact Finset.sum_congr rfl fun k _ => mul_comm _ _

theorem drive_fwd : A_main_v7 (F := Ideal) x w w' i i' (ix5 J B h b l) = driveW x w B h (4 * J.val + b.val) l := by
  pointwise [A_main_v7, A_main_v6, A_main_v5, A_main_v4, A_main_v3, A_main_v0]
  exact drive_sum x w B h l _ _ _ (by omega)

theorem drive_turned : A_main_v12 (F := Ideal) x w w' i i' (ix5 J B h b l) = driveW x w' B h (4 * J.val + b.val) l := by
  pointwise [A_main_v12, A_main_v11, A_main_v10, A_main_v9, A_main_v8, A_main_v0]
  exact drive_sum x w' B h l _ _ _ (by omega)

/-- Reversing the chunks. -/
theorem reversed (v : FVec Ideal S512x4x2x4x512 .f32) : Host.reverse [0] v (ix5 J B h b l) = v (ix5 J.rev B h b l) :=
  congrArg v (funext fun a => match a with
    | 0 => rfl
    | 1 => rfl
    | 2 => rfl
    | 3 => rfl
    | 4 => rfl)

theorem drive_rev : A_main_v13 (F := Ideal) x w w' i i' (ix5 J B h b l) = driveW x w' B h (4 * (511 - J.val) + b.val) l := by
  unfold A_main_v13
  rw [reversed, drive_turned]
  exact congrArg (fun n => driveW x w' B h (4 * n + b.val) l) (by rw [Fin.val_rev]; omega)

theorem first_fwd : A_main_v1 (F := Ideal) x w w' i i' (ix4 B h b l) = firstW i B h b.val l := by
  pointwise [A_main_v1]
  unfold firstW
  rw [dif_pos (show b.val < 8 by omega)]

theorem first_rev : A_main_v2 (F := Ideal) x w w' i i' (ix4 B h b l) = firstW i' B h b.val l := by
  pointwise [A_main_v2]
  unfold firstW
  rw [dif_pos (show b.val < 8 by omega)]

end Inputs

theorem num (j : ℕ) (hj : j < 512) : (BitVec.ofNat 32 j).toInt = (j : Int) := by
  rw [BitVec.toInt_eq_toNat_of_lt] <;> rw [BitVec.toNat_ofNat, Nat.mod_eq_of_lt (by omega)]
  omega

/-- Where trip `j` reads and stores, in the chunks. -/
abbrev off (j : ℕ) : Fin 5 → ℕ := ![j, 0, 0, 0, 0]

theorem off_slices (j : ℕ) (hj : j < 512) : S512x4x2x4x512.Slices (off j) S1x4x2x4x512 :=
  ⟨rfl, fun a => match a with
    | 0 => show j + 1 ≤ 512 by omega
    | 1 => show 0 + 4 ≤ 4 by omega
    | 2 => show 0 + 2 ≤ 2 by omega
    | 3 => show 0 + 4 ≤ 4 by omega
    | 4 => show 0 + 512 ≤ 512 by omega⟩

theorem b4_eq (j : ℕ) (hj : j < 512) (s : State Ideal) : b4 j s = extractStridedSlice S1x4x2x4x512 (off j) s.main_v16_0 (off_slices j hj) := by
  unfold b4
  exact Host.dynamicSlice_eq_extractStridedSlice (s := S512x4x2x4x512) S1x4x2x4x512 _ _ (off j) _ (off_slices j hj) fun a => match a with
    | 0 => num j hj
    | 1 => rfl
    | 2 => rfl
    | 3 => rfl
    | 4 => rfl

theorem b10_eq (j : ℕ) (hj : j < 512) (s : State Ideal) : b10 j s = extractStridedSlice S1x4x2x4x512 (off j) s.main_v16_1 (off_slices j hj) := by
  unfold b10
  exact Host.dynamicSlice_eq_extractStridedSlice (s := S512x4x2x4x512) S1x4x2x4x512 _ _ (off j) _ (off_slices j hj) fun a => match a with
    | 0 => num j hj
    | 1 => rfl
    | 2 => rfl
    | 3 => rfl
    | 4 => rfl

theorem clamps (j : ℕ) (hj : j < 512) (start : Fin 5 → Int) (h : ∀ a, start a = (off j a : Int)) (a : Fin 5) :
    (min (max (start a) 0) ((S512x4x2x4x512.size a - S1x4x2x4x512.size a : ℕ) : Int)).toNat = off j a := by
  rw [h a]
  match a with
  | 0 => show (min (max (j : Int) 0) ((512 - 1 : ℕ) : Int)).toNat = j; omega
  | 1 => rfl
  | 2 => rfl
  | 3 => rfl
  | 4 => rfl

theorem b49_eq (j : ℕ) (hj : j < 512) (s : State Ideal) : b49 j s = updateSlice s.main_v16_7 (b44 j s) (off j) (off_slices j hj) := by
  unfold b49
  exact Host.dynamicUpdateSlice_eq_updateSlice (s := S512x4x2x4x512) (u := S1x4x2x4x512) _ _ _ _ (off j) (clamps j hj _ fun a => match a with
    | 0 => num j hj
    | 1 => rfl
    | 2 => rfl
    | 3 => rfl
    | 4 => rfl) (off_slices j hj)

theorem b55_eq (j : ℕ) (hj : j < 512) (s : State Ideal) : b55 j s = updateSlice s.main_v16_8 (b50 j s) (off j) (off_slices j hj) := by
  unfold b55
  exact Host.dynamicUpdateSlice_eq_updateSlice (s := S512x4x2x4x512) (u := S1x4x2x4x512) _ _ _ _ (off j) (clamps j hj _ fun a => match a with
    | 0 => num j hj
    | 1 => rfl
    | 2 => rfl
    | 3 => rfl
    | 4 => rfl) (off_slices j hj)

theorem next_fwd (j : ℕ) (hj : j < 512) (s : State Ideal) (B : Fin 4) (h : Fin 2) (b : Fin 4) (l : Fin 512) :
    b27 (F := Ideal) j s (ix4 B h b l)
      = turn (fun l => s.main_v16_2 (ix4 B h 0 l)) (fun l => s.main_v16_5 (ix4 B h b l)) l + s.main_v16_0 (ix5 ⟨j, hj⟩ B h b l) := by
  have e := b4_eq j hj s
  pointwise [b27, b26, b25, b24, b23, b22, b21, b20, b19, b18, b17, b16, b15, b14, b13, b12, b5, e, turn]

theorem next_rev (j : ℕ) (hj : j < 512) (s : State Ideal) (B : Fin 4) (h : Fin 2) (b : Fin 4) (l : Fin 512) :
    b43 (F := Ideal) j s (ix4 B h b l)
      = turn (fun l => s.main_v16_3 (ix4 B h 0 l)) (fun l => s.main_v16_6 (ix4 B h b l)) l + s.main_v16_1 (ix5 ⟨j, hj⟩ B h b l) := by
  have e := b10_eq j hj s
  pointwise [b43, b42, b41, b40, b39, b38, b37, b36, b35, b34, b33, b32, b31, b30, b29, b28, b11, e, turn]

theorem out_fwd (j : ℕ) (hj : j < 512) (s : State Ideal) (J : Fin 512) (B : Fin 4) (h : Fin 2) (b : Fin 4) (l : Fin 512) :
    b49 (F := Ideal) j s (ix5 J B h b l) = if J.val = j then s.main_v16_5 (ix4 B h b l) else s.main_v16_7 (ix5 J B h b l) := by
  have e := b49_eq j hj s
  pointwise [e, b44]
  by_cases hJ : J.val = j
  · rw [if_pos hJ, dif_pos (by omega)]
  · rw [if_neg hJ, dif_neg (by omega)]

theorem out_rev (j : ℕ) (hj : j < 512) (s : State Ideal) (J : Fin 512) (B : Fin 4) (h : Fin 2) (b : Fin 4) (l : Fin 512) :
    b55 (F := Ideal) j s (ix5 J B h b l) = if J.val = j then s.main_v16_6 (ix4 B h b l) else s.main_v16_8 (ix5 J B h b l) := by
  have e := b55_eq j hj s
  pointwise [e, b50]
  by_cases hJ : J.val = j
  · rw [if_pos hJ, dif_pos (by omega)]
  · rw [if_neg hJ, dif_neg (by omega)]

section Trips

variable (m : (ℓ : Loc nD τ sig) → Buf (Elt Ideal) ℓ) (c : Dev nD)

open Cert.Proof.ScanRun

/-- The states over the reference's arguments. -/
abbrev fwd : Fin 4 → Fin 2 → ℕ → ℕ → Fin 512 → EReal :=
  fwdW (m ((c.tc : Thread nD τ).loc main_arg0)) (m ((c.tc : Thread nD τ).loc main_arg1)) (m ((c.tc : Thread nD τ).loc main_arg3)) (m ((c.tc : Thread nD τ).loc main_arg5))
abbrev rev : Fin 4 → Fin 2 → ℕ → ℕ → Fin 512 → EReal :=
  revW (m ((c.tc : Thread nD τ).loc main_arg0)) (m ((c.tc : Thread nD τ).loc main_arg2)) (m ((c.tc : Thread nD τ).loc main_arg4)) (m ((c.tc : Thread nD τ).loc main_arg6))

theorem kept0 : ∀ n, (seq (F := Ideal) m c n).main_v16_0 = (seq (F := Ideal) m c 0).main_v16_0
  | 0 => rfl
  | n + 1 => kept0 n
theorem kept1 : ∀ n, (seq (F := Ideal) m c n).main_v16_1 = (seq (F := Ideal) m c 0).main_v16_1
  | 0 => rfl
  | n + 1 => kept1 n
theorem kept2 : ∀ n, (seq (F := Ideal) m c n).main_v16_2 = (seq (F := Ideal) m c 0).main_v16_2
  | 0 => rfl
  | n + 1 => kept2 n
theorem kept3 : ∀ n, (seq (F := Ideal) m c n).main_v16_3 = (seq (F := Ideal) m c 0).main_v16_3
  | 0 => rfl
  | n + 1 => kept3 n

variable (B : Fin 4) (h : Fin 2) (b : Fin 4)

theorem carried_fwd : ∀ n, n ≤ 512 → ∀ l, (seq (F := Ideal) m c n).main_v16_5 (ix4 B h b l) = fwd m c B h n b.val l
  | 0, _, l => first_fwd (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) B h b l
  | n + 1, hn, l => by
    have ih := carried_fwd n (by omega)
    refine (congrFun (step_main_v16_5 n (seq m c n)) _).trans ((next_fwd n (by omega) (seq m c n) B h b l).trans ?_)
    simp only [ih]
    rw [kept0, kept2]
    exact congrArg (_ + ·) (drive_fwd _ _ _ _ _ ⟨n, by omega⟩ B h b l)

theorem carried_rev : ∀ n, n ≤ 512 → ∀ l, (seq (F := Ideal) m c n).main_v16_6 (ix4 B h b l) = rev m c B h n b.val l
  | 0, _, l => first_rev (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) B h b l
  | n + 1, hn, l => by
    have ih := carried_rev n (by omega)
    refine (congrFun (step_main_v16_6 n (seq m c n)) _).trans ((next_rev n (by omega) (seq m c n) B h b l).trans ?_)
    simp only [ih]
    rw [kept1, kept3]
    exact congrArg (_ + ·) (drive_rev _ _ _ _ _ ⟨n, by omega⟩ B h b l)

theorem stored_fwd (J : Fin 512) (l : Fin 512) : ∀ n, n ≤ 512 → J.val < n →
    (seq (F := Ideal) m c n).main_v16_7 (ix5 J B h b l) = fwd m c B h J.val b.val l
  | 0, _, hJ => absurd hJ (Nat.not_lt_zero _)
  | n + 1, hn, hJ => by
    refine (congrFun (step_main_v16_7 n (seq m c n)) _).trans ((out_fwd n (by omega) (seq m c n) J B h b l).trans ?_)
    by_cases e : J.val = n
    · rw [if_pos e, carried_fwd m c B h b n (by omega), e]
    · rw [if_neg e, stored_fwd J l n (by omega) (by omega)]

theorem stored_rev (J : Fin 512) (l : Fin 512) : ∀ n, n ≤ 512 → J.val < n →
    (seq (F := Ideal) m c n).main_v16_8 (ix5 J B h b l) = rev m c B h J.val b.val l
  | 0, _, hJ => absurd hJ (Nat.not_lt_zero _)
  | n + 1, hn, hJ => by
    refine (congrFun (step_main_v16_8 n (seq m c n)) _).trans ((out_rev n (by omega) (seq m c n) J B h b l).trans ?_)
    by_cases e : J.val = n
    · rw [if_pos e, carried_rev m c B h b n (by omega), e]
    · rw [if_neg e, stored_rev J l n (by omega) (by omega)]

end Trips

section Results

variable (m : (ℓ : Loc nD τ sig) → Buf (Elt Ideal) ℓ) (c : Dev nD)

open Cert.Proof.ScanRun

theorem rows_fwd_at (y : S4x2048x1024.Idx) :
    R_main_v18 (F := Ideal) (seq m c 512) y = fwd m c (y 0) (half (y 2)) ((y 1).val / 4) ((y 1).val % 4) (lane (y 2)) := by
  pointwise [R_main_v18]
  exact stored_fwd m c (y 0) (half (y 2)) _ _ (lane (y 2)) 512 le_rfl (Fin.isLt _)

theorem rows_turned_at (v : FVec Ideal S512x4x2x4x512 .f32) (hv) (hc) (y : S4x2048x1024.Idx) :
    shapeCast S4x2048x1024 (transpose S4x512x4x2x512 [1, 0, 3, 2, 4] v hv) hc y
      = v (ix5 ⟨(y 1).val / 4, by have h : (y 1).val < 2048 := (y 1).isLt; omega⟩ (y 0) (half (y 2)) ⟨(y 1).val % 4, by omega⟩ (lane (y 2))) := by
  pointwise []

theorem rows_rev_at (y : S4x2048x1024.Idx) :
    R_main_v21 (F := Ideal) (seq m c 512) y = rev m c (y 0) (half (y 2)) (511 - (y 1).val / 4) ((y 1).val % 4) (lane (y 2)) := by
  unfold R_main_v21
  rw [rows_turned_at]
  refine (reversed _ _ _ _ _ _).trans ?_
  refine (stored_rev m c (y 0) (half (y 2)) _ _ (lane (y 2)) 512 le_rfl (Fin.isLt _)).trans ?_
  exact congrArg (fun n => rev m c (y 0) (half (y 2)) n ((y 1).val % 4) (lane (y 2))) (by rw [Fin.val_rev]; show 512 - ((y 1).val / 4 + 1) = _; omega)

theorem last_fwd_at (y : S4x2x8x512.Idx) (hy : (y 2).val < 4) :
    R_main_v23 (F := Ideal) (seq m c 512) y = fwd m c (y 0) (y 1) 512 (y 2).val (y 3) := by
  pointwise [R_main_v23]
  rw [dif_pos hy]
  exact carried_fwd m c (y 0) (y 1) ⟨(y 2).val, hy⟩ 512 le_rfl (y 3)

theorem last_rev_at (y : S4x2x8x512.Idx) (hy : (y 2).val < 4) :
    R_main_v25 (F := Ideal) (seq m c 512) y = rev m c (y 0) (y 1) 512 (y 2).val (y 3) := by
  pointwise [R_main_v25]
  rw [dif_pos hy]
  exact carried_rev m c (y 0) (y 1) ⟨(y 2).val, hy⟩ 512 le_rfl (y 3)

end Results

end Cert.Proof.ScanRef

end
-- ==== Proof.Scan.lean ====
/-
  The recurrence call (`s5_scan`) is the reference's, on every result but the padding rows of the last states.
-/
module

public import proofs.«01_k».proof.Proof.ScanWhole
public import proofs.«01_k».proof.Proof.ScanRef
public import proofs.«01_k».proof.Proof.Gen.On_state_rows

@[expose] public section

set_option maxRecDepth 16384

noncomputable section

open Idealize.ShloMosaic Idealize.ShloMosaic.TcCoe Idealize.SL.Sem

namespace Cert.Proof.Scan

/-- A row the mask selects is one of the first four. -/
theorem selected (b : Fin 8) : (IntOp.cmpi CmpIPredicate.slt (BitVec.ofNat 32 b.val) 4#32 : BitVec 1) = 1#1 → b.val < 4 := by
  revert b
  decide

/-- The recurrence call and the reference end with the same four result arrays, the last two on the rows of chains, and both leave
    their arguments as they were. -/
theorem algebraic : Cert.algebraic_KernelIdeal_ReferenceIdeal_on_state_rows := by
  intro m ρ m' ρ' _ hag
  refine ⟨fun c => Cert.KernelIdeal.Whole.fwdRows m c, fun c => Cert.KernelIdeal.Whole.revRows m c,
    fun c => Cert.KernelIdeal.Whole.fwdLast m c, fun c => Cert.KernelIdeal.Whole.revLast m c, ?_, ?_⟩
  · refine (θ_run Cert.KernelIdeal.defs _ _).mono (fun r h c => ?_) (Cert.KernelIdeal.Gen.run_main m ρ)
    exact ⟨fun i _ => congrFun ((Cert.KernelIdeal.Value.post7 m r h c).trans (Cert.KernelIdeal.Whole.final7 m c)) i,
      fun i _ => congrFun ((Cert.KernelIdeal.Value.post8 m r h c).trans (Cert.KernelIdeal.Whole.final8 m c)) i,
      fun i _ => congrFun ((Cert.KernelIdeal.Value.post9 m r h c).trans (Cert.KernelIdeal.Whole.final9 m c)) i,
      fun i _ => congrFun ((Cert.KernelIdeal.Value.post10 m r h c).trans (Cert.KernelIdeal.Whole.final10 m c)) i,
      Cert.KernelIdeal.Value.kept_main_arg0 m r h c, Cert.KernelIdeal.Value.kept_main_arg1 m r h c,
      Cert.KernelIdeal.Value.kept_main_arg2 m r h c, Cert.KernelIdeal.Value.kept_main_arg3 m r h c,
      Cert.KernelIdeal.Value.kept_main_arg4 m r h c, Cert.KernelIdeal.Value.kept_main_arg5 m r h c,
      Cert.KernelIdeal.Value.kept_main_arg6 m r h c⟩
  · refine (θ_run Cert.ReferenceIdeal.defs _ _).mono (fun r h c => ?_) (Cert.Proof.ScanRun.run (F := Ideal) m' ρ')
    obtain ⟨h18, h21, h23, h25, hk⟩ := h c
    obtain ⟨e0, e1, e2, e3, e4, e5, e6⟩ := hag c
    have ef : Cert.Proof.ScanRef.fwd m' c = Cert.KernelIdeal.Whole.fwd m c := by
      unfold Cert.Proof.ScanRef.fwd
      rw [e0, e1, e3, e5]
    have er : Cert.Proof.ScanRef.rev m' c = Cert.KernelIdeal.Whole.rev m c := by
      unfold Cert.Proof.ScanRef.rev
      rw [e0, e2, e4, e6]
    refine ⟨fun i _ => ?_, fun i _ => ?_, fun i hi => ?_, fun i hi => ?_, hk⟩
    · refine (congrFun h18 i).trans ((Cert.Proof.ScanRef.rows_fwd_at m' c i).trans ?_)
      rw [ef]; rfl
    · refine (congrFun h21 i).trans ((Cert.Proof.ScanRef.rows_rev_at m' c i).trans ?_)
      rw [er]; rfl
    · have hb : (i 2).val < 4 := selected (i 2) hi
      refine (congrFun h23 i).trans ((Cert.Proof.ScanRef.last_fwd_at m' c i hb).trans ?_)
      rw [ef]
      exact (Cert.KernelIdeal.Whole.fwdLast_row m c (i 0) (i 1) (i 2) hb (i 3)).symm.trans
        (congrArg (Cert.KernelIdeal.Whole.fwdLast m c) (funext fun a => match a with | 0 => rfl | 1 => rfl | 2 => rfl | 3 => rfl))
    · have hb : (i 2).val < 4 := selected (i 2) hi
      refine (congrFun h25 i).trans ((Cert.Proof.ScanRef.last_rev_at m' c i hb).trans ?_)
      rw [er]
      exact (Cert.KernelIdeal.Whole.revLast_row m c (i 0) (i 1) (i 2) hb (i 3)).symm.trans
        (congrArg (Cert.KernelIdeal.Whole.revLast m c) (funext fun a => match a with | 0 => rfl | 1 => rfl | 2 => rfl | 3 => rfl))

end Cert.Proof.Scan

end
-- ==== Proof.Mlp.lean ====
/-
  The feed-forward call (`mlp`) is the reference's array.
-/
module

public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Whole

open Cert.Kernel2Ideal Cert.Kernel2Ideal.Gen

variable (m : (ℓ : Loc nD τ sig) → Buf (Elt Ideal) ℓ)

/-- The index maps of all the windows, in the point's number. -/
theorem idx : ∀ t : Fin cfg0.N, win0_0.index t = ![t.val / 16, t.val / 4 % 4, 0] ∧ win0_1.index t = ![0, 0]
    ∧ win0_2.index t = ![t.val / 16, 0, 3] ∧ win0_3.index t = ![t.val / 16, 0, 4] ∧ win0_4.index t = ![t.val / 16, 0, 5]
    ∧ win0_5.index t = ![0, t.val % 4] ∧ win0_6.index t = ![t.val % 4, 0] ∧ win0_7.index t = ![0, 0]
    ∧ win0_8.index t = ![t.val / 16, t.val / 4 % 4, 0] :=
  (by decide +kernel : ∀ t : Fin grid0.N, _)

/-- The normalised and modulated rows of point `t`'s block of `x`. -/
abbrev hid (c : Dev nD) (t : Fin cfg0.N) : FVec Ideal S1024x1024 .bf16 :=
  k0_pay1 (F := Ideal) (iblk m c 0 t) (iblk m c 1 t) (iblk m c 2 t) (iblk m c 3 t)

/-- What point `t` adds to the accumulator `a`: its slab of the squared rectified hidden layer times its slab of the second weights. -/
abbrev step (c : Dev nD) (t : Fin cfg0.N) (a : FVec Ideal S1024x1024 .f32) : FVec Ideal S1024x1024 .f32 :=
  k0_pay3 (F := Ideal) (hid m c t) (iblk m c 5 t) a (iblk m c 6 t)

/-- Within a run of four points the blocks of the inputs of the normalisation do not move. -/
theorem hid_pred (c : Dev nD) (t : Fin cfg0.N) (h0 : ¬ t.val % 4 = 0) (hp : t.val - 1 < cfg0.N) :
    hid m c ⟨t.val - 1, hp⟩ = hid m c t := by
  have e0 : iblk m c 0 ⟨t.val - 1, hp⟩ = iblk m c 0 t := by
    funext y; blk_point [iblk, V, idx t, idx ⟨t.val - 1, hp⟩]
  have e1 : iblk m c 1 ⟨t.val - 1, hp⟩ = iblk m c 1 t := by
    funext y; blk_point [iblk, V, idx t, idx ⟨t.val - 1, hp⟩]
  have e2 : iblk m c 2 ⟨t.val - 1, hp⟩ = iblk m c 2 t := by
    funext y; blk_point [iblk, V, idx t, idx ⟨t.val - 1, hp⟩]
  have e3 : iblk m c 3 ⟨t.val - 1, hp⟩ = iblk m c 3 t := by
    funext y; blk_point [iblk, V, idx t, idx ⟨t.val - 1, hp⟩]
  unfold hid
  rw [e0, e1, e2, e3]

/-- At the first point of a run of four the first scratch is written from the point's own blocks. -/
theorem rows_first (c : Dev nD) (t : Fin cfg0.N) (h0 : t.val % 4 = 0) : (outsAt0 m c t.val t.isLt).2.1 = hid m c t := by
  rw [outsAt0_A m c t h0 (by omega)]
  frame_out

/-- The first scratch after point `t` holds the rows normalised from point `t`'s blocks. -/
theorem rows (c : Dev nD) : ∀ (n : ℕ) (h : n < cfg0.N), (outsAt0 m c n h).2.1 = hid m c ⟨n, h⟩
  | 0, h => rows_first m c ⟨0, h⟩ rfl
  | n + 1, h => by
    by_cases h0 : (n + 1) % 4 = 0
    · exact rows_first m c ⟨n + 1, h⟩ h0
    · by_cases h1 : (n + 1) % 4 = 3
      · rw [outsAt0_C m c ⟨n + 1, h⟩ h0 h1]
        exact (rows c n (Nat.lt_of_succ_lt h)).trans (hid_pred m c ⟨n + 1, h⟩ h0 (Nat.lt_of_succ_lt h))
      · rw [outsAt0_B m c ⟨n + 1, h⟩ h0 h1]
        exact (rows c n (Nat.lt_of_succ_lt h)).trans (hid_pred m c ⟨n + 1, h⟩ h0 (Nat.lt_of_succ_lt h))

/-- Reading back the first scratch through its whole window gives the rows written. -/
theorem rows_read (h : FVec Ideal S1024x1024 .bf16) :
    View.read (Elt Ideal) (View.whole cc0_scratch0) ((Memref.isWhole_whole cc0_scratch0).unread h) = h :=
  (Memref.isWhole_whole cc0_scratch0).read_unread _

/-- Reading back the second scratch through its whole window gives the sums written. -/
theorem sums_read (h : FVec Ideal S1024x1024 .f32) :
    View.read (Elt Ideal) (View.whole cc0_scratch1) ((Memref.isWhole_whole cc0_scratch1).unread h) = h :=
  (Memref.isWhole_whole cc0_scratch1).read_unread _

/-- At the first point of a run of four the accumulator starts from zero. -/
theorem sums_first (c : Dev nD) (t : Fin cfg0.N) (h0 : t.val % 4 = 0) :
    (outsAt0 m c t.val t.isLt).2.2 = step m c t (k0_pay2 (F := Ideal)) := by
  rw [outsAt0_A m c t h0 (by omega)]
  frame_out

/-- At the other points of a run the accumulator goes on from what the point before left. -/
theorem sums_next (c : Dev nD) (t : Fin cfg0.N) (h0 : ¬ t.val % 4 = 0) (hp : t.val - 1 < cfg0.N) :
    (outsAt0 m c t.val t.isLt).2.2 = step m c t (outsAt0 m c (t.val - 1) hp).2.2 := by
  by_cases h1 : t.val % 4 = 3
  · rw [outsAt0_C m c t h0 h1]
    frame_out
    rw [rows m c (t.val - 1) _, hid_pred m c t h0]
    simp only [rows_read, sums_read]
  · rw [outsAt0_B m c t h0 h1]
    frame_out
    rw [rows m c (t.val - 1) _, hid_pred m c t h0]
    simp only [rows_read, sums_read]

/-- The output block after the last point of a run: the residual sum, normalised. -/
theorem out_eq (c : Dev nD) (t : Fin cfg0.N) (h1 : t.val % 4 = 3) : (outsAt0 m c t.val t.isLt).1
    = k0_pay4 (F := Ideal) (iblk m c 0 t) (iblk m c 4 t) (outsAt0 m c t.val t.isLt).2.2 (iblk m c 7 t) := by
  rw [sums_next m c t (by omega) (by omega), outsAt0_C m c t (by omega) h1]
  frame_out
  rw [rows m c (t.val - 1) _, hid_pred m c t (by omega)]
  simp only [rows_read, sums_read]

/-- The reference's second product over the kernel's arguments. -/
abbrev refSum (c : Dev nD) : FVec Ideal S4x4096x1024 .f32 :=
  Cert.Reference2Ideal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's whole result over the kernel's arguments. -/
abbrev ref (c : Dev nD) : FVec Ideal S4x4096x1024 .f32 :=
  Cert.Reference2Ideal.Read.val_main_v44 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

open Cert.Reference2Ideal.Read in
/-- Four steps of the accumulator over a run's points are the reference's product over all the hidden columns. -/
theorem sums_eq (c : Dev nD) (t t1 t2 t3 : Fin cfg0.N) (h1 : t1.val = t.val + 1) (h2 : t2.val = t.val + 2) (h3 : t3.val = t.val + 3)
    (h0 : t.val % 4 = 0) (y : S1024x1024.Idx) :
    step m c t3 (step m c t2 (step m c t1 (step m c t (k0_pay2 (F := Ideal))))) y
      = refSum m c (((cfg0.win 8).blk t3).view.emb (ix3 0 (y 0) (y 1) : S1x1024x1024.Idx)) := by
  pointwise [step, k0_pay2, k0_pay3, k0_pay1, hid, refSum,
    val_main_v0, val_main_v1, val_main_v2, val_main_v3, val_main_v4, val_main_cst, val_main_v5, val_main_v6, val_main_cst_0,
    val_main_v7, val_main_v8, val_main_cst_1, val_main_v9, val_main_v10, val_main_v11, val_main_v12, val_main_v13, val_main_v14,
    val_main_v15, val_main_v16, val_main_cst_2, val_main_v17, val_main_v18, val_main_v19, val_main_v20, val_main_v21,
    val_main_v22, val_main_v23, val_main_v24, val_main_call0_cst, val_main_call0_v0, val_main_v25, val_main_v26, val_main_v27,
    val_main_v28]
  rw [Fin.sum_univ_tiles 4 1024 rfl, Fin.sum_univ_four]
  blk_point [iblk, V, idx t, idx t1, idx t2, idx t3]

open Cert.Reference2Ideal.Read in
/-- The block stored at the last point of a run, read at `y`, is the reference read at the place `y` has in the array. -/
theorem point (c : Dev nD) (t : Fin cfg0.N) (a : FVec Ideal S1024x1024 .f32)
    (ha : ∀ x : S1024x1024.Idx, a x = refSum m c (((cfg0.win 8).blk t).view.emb (ix3 0 (x 0) (x 1) : S1x1024x1024.Idx))) (y : S1x1024x1024.Idx) :
    k0_pay4 (F := Ideal) (iblk m c 0 t) (iblk m c 4 t) a (iblk m c 7 t) y = ref m c (((cfg0.win 8).blk t).view.emb y) := by
  obtain rfl : a = fun x => refSum m c (((cfg0.win 8).blk t).view.emb (ix3 0 (x 0) (x 1) : S1x1024x1024.Idx)) := funext ha
  pointwise [k0_pay4, ref,
    val_main_v0, val_main_v3, val_main_v29, val_main_v30, val_main_v31, val_main_v32, val_main_cst_3, val_main_v33, val_main_v34,
    val_main_cst_4, val_main_v35, val_main_v36, val_main_cst_5, val_main_v37, val_main_v38, val_main_v39, val_main_v40,
    val_main_v41, val_main_v42, val_main_v43, val_main_v44]
  blk_point [iblk, V, idx t, refSum]

/-- The accumulator after the last point of a run is the reference's product at the run's rows. -/
theorem sums_last (c : Dev nD) (t : Fin cfg0.N) (h : t.val % 4 = 3) (y : S1024x1024.Idx) :
    (outsAt0 m c t.val t.isLt).2.2 y = refSum m c (((cfg0.win 8).blk t).view.emb (ix3 0 (y 0) (y 1) : S1x1024x1024.Idx)) := by
  have hN : t.val < cfg0.N := t.isLt
  have p0 : t.val - 3 < cfg0.N := by omega
  have p1 : t.val - 2 < cfg0.N := by omega
  have p2 : t.val - 1 < cfg0.N := by omega
  have e1 : (outsAt0 m c (t.val - 1) p2).2.2 = step m c ⟨t.val - 1, p2⟩ (outsAt0 m c (t.val - 2) p1).2.2 :=
    sums_next m c ⟨t.val - 1, p2⟩ (by simp only; omega) p1
  have e2 : (outsAt0 m c (t.val - 2) p1).2.2 = step m c ⟨t.val - 2, p1⟩ (outsAt0 m c (t.val - 3) p0).2.2 :=
    sums_next m c ⟨t.val - 2, p1⟩ (by simp only; omega) p0
  have e3 : (outsAt0 m c (t.val - 3) p0).2.2 = step m c ⟨t.val - 3, p0⟩ (k0_pay2 (F := Ideal)) :=
    sums_first m c ⟨t.val - 3, p0⟩ (by simp only; omega)
  rw [sums_next m c t (by omega) p2, e1, e2, e3]
  exact sums_eq m c ⟨t.val - 3, p0⟩ ⟨t.val - 2, p1⟩ ⟨t.val - 1, p2⟩ t (by simp only; omega) (by simp only; omega) (by simp only; omega)
    (by simp only; omega) y

/-- The kernel's result array is the reference's. -/
theorem final (c : Dev nD) : (dats m 0 c).arrAt 8 cfg0.N = ref m c := by
  refine (dats m 0 c).arrAt_eq_of_covers 8 _ (by decide +kernel) fun t hf y => ?_
  have h3 : t.val % 4 = 3 :=
    (by decide +kernel : ∀ t : Fin cfg0.N, (cfg0.win 8).flush t = true → t.val % 4 = 3) t hf
  blk_simp
  rw [after0_8, out_eq m c t h3]
  exact point m c t _ (sums_last m c t h3) y

end Cert.Kernel2Ideal.Whole

namespace Cert.Proof.Mlp

/-- The feed-forward call and the reference end with the same result array, and both leave their arguments as they were. -/
theorem algebraic : Cert.algebraic_Kernel2Ideal_Reference2Ideal := by
  intro m ρ m' ρ' _ hag
  refine ⟨fun c => Cert.Kernel2Ideal.Whole.ref m c, ?_, ?_⟩
  · refine (θ_run Cert.Kernel2Ideal.defs _ _).mono (fun r h c => ?_) (Cert.Kernel2Ideal.Value.run (F := Ideal) m ρ)
    refine ⟨(h c).1.trans ?_, (h c).2⟩
    exact (Cert.Kernel2Ideal.Value.final8 m c).symm.trans (Cert.Kernel2Ideal.Whole.final m c)
  · refine (θ_run Cert.Reference2Ideal.defs _ _).mono (fun r h c => ⟨(h c).1.trans ?_, (h c).2⟩)
      (Cert.Reference2Ideal.Value.run (F := Ideal) m' ρ')
    obtain ⟨e0, e1, e2, e3, e4, e5⟩ := hag c
    rw [Cert.Reference2Ideal.Read.val_main_v44_eq, e0, e1, e2, e3, e4, e5]

end Cert.Proof.Mlp

end
-- ==== Proof.NormMm.lean ====
/-
  The projection call (`norm_mm`: RMS normalisation, modulation, product with the weights) is the reference's array.
-/
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Whole

open Cert.Kernel3Ideal Cert.Kernel3Ideal.Gen

variable (m : (ℓ : Loc nD τ sig) → Buf (Elt Ideal) ℓ)

/-- The index maps of all the windows, in the point's number. -/
theorem idx : ∀ t : Fin cfg0.N, win0_0.index t = ![t.val / 16, t.val / 4 % 4, 0] ∧ win0_1.index t = ![0, 0]
    ∧ win0_2.index t = ![t.val / 16, 0, 0] ∧ win0_3.index t = ![t.val / 16, 0, 1] ∧ win0_4.index t = ![0, t.val % 4]
    ∧ win0_5.index t = ![t.val / 16, t.val / 4 % 4, t.val % 4] :=
  (by decide +kernel : ∀ t : Fin grid0.N, _)

/-- The normalised and modulated rows of point `t`'s block of `x`. -/
abbrev hid (c : Dev nD) (t : Fin cfg0.N) : FVec Ideal S1024x1024 .bf16 :=
  k0_pay1 (F := Ideal) (iblk m c 0 t) (iblk m c 1 t) (iblk m c 2 t) (iblk m c 3 t)

/-- At the first point of a run of four the scratch is written from the point's own blocks. -/
theorem scratch_first (c : Dev nD) (t : Fin cfg0.N) (h0 : t.val % 4 = 0) : (outsAt0 m c t.val t.isLt).2 = hid m c t := by
  rw [outsAt0_A m c t h0]
  frame_out

/-- Within a run the blocks of the four inputs of the normalisation do not move. -/
theorem hid_pred (c : Dev nD) (t : Fin cfg0.N) (h0 : ¬ t.val % 4 = 0) (hp : t.val - 1 < cfg0.N) :
    hid m c ⟨t.val - 1, hp⟩ = hid m c t := by
  have e0 : iblk m c 0 ⟨t.val - 1, hp⟩ = iblk m c 0 t := by
    funext y; blk_point [iblk, V, idx t, idx ⟨t.val - 1, hp⟩]
  have e1 : iblk m c 1 ⟨t.val - 1, hp⟩ = iblk m c 1 t := by
    funext y; blk_point [iblk, V, idx t, idx ⟨t.val - 1, hp⟩]
  have e2 : iblk m c 2 ⟨t.val - 1, hp⟩ = iblk m c 2 t := by
    funext y; blk_point [iblk, V, idx t, idx ⟨t.val - 1, hp⟩]
  have e3 : iblk m c 3 ⟨t.val - 1, hp⟩ = iblk m c 3 t := by
    funext y; blk_point [iblk, V, idx t, idx ⟨t.val - 1, hp⟩]
  unfold hid
  rw [e0, e1, e2, e3]

/-- The scratch after point `t` holds the rows normalised from point `t`'s blocks. -/
theorem scratch (c : Dev nD) : ∀ (n : ℕ) (h : n < cfg0.N), (outsAt0 m c n h).2 = hid m c ⟨n, h⟩
  | 0, h => scratch_first m c ⟨0, h⟩ rfl
  | n + 1, h => by
    by_cases h0 : (n + 1) % 4 = 0
    · exact scratch_first m c ⟨n + 1, h⟩ h0
    · rw [outsAt0_B m c ⟨n + 1, h⟩ h0]
      exact (scratch c n (Nat.lt_of_succ_lt h)).trans (hid_pred m c ⟨n + 1, h⟩ h0 (Nat.lt_of_succ_lt h))

/-- The output block after point `t` is the product of the normalised rows with the point's columns of the weights. -/
theorem out_eq (c : Dev nD) (t : Fin cfg0.N) : (outsAt0 m c t.val t.isLt).1 = k0_pay2 (F := Ideal) (hid m c t) (iblk m c 4 t) := by
  by_cases h0 : t.val % 4 = 0
  · rw [outsAt0_A m c t h0]
    frame_out
  · rw [outsAt0_B m c t h0]
    frame_out
    rw [scratch m c (t.val - 1) _, hid_pred m c t h0]
    exact congrArg (fun h => k0_pay2 (F := Ideal) h (iblk m c 4 t)) ((Memref.isWhole_whole cc0_scratch0).read_unread _)

/-- The reference's whole result over the kernel's arguments. -/
abbrev ref (c : Dev nD) : FVec Ideal S4x4096x6656 .f32 :=
  Cert.Reference3Ideal.Read.val_main_v23 (F := Ideal) (m ((c : Thread nD τ).loc main_arg0)) (m ((c : Thread nD τ).loc main_arg1))
    (m ((c : Thread nD τ).loc main_arg2)) (m ((c : Thread nD τ).loc main_arg3))

open Cert.Reference3Ideal.Read in
/-- The block stored at point `t`, read at `y`, is the reference read at the place `y` has in the array. -/
theorem point (c : Dev nD) (t : Fin cfg0.N) (y : S1x1024x1664.Idx) :
    k0_pay2 (F := Ideal) (hid m c t) (iblk m c 4 t) y = ref m c (((cfg0.win 5).blk t).view.emb y) := by
  pointwise [k0_pay2, k0_pay1, hid, ref, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1,
    val_main_cst_2]
  blk_point [iblk, V, idx t]

/-- The kernel's result array is the reference's. -/
theorem final (c : Dev nD) : (dats m 0 c).arrAt 5 cfg0.N = ref m c := by
  refine (dats m 0 c).arrAt_eq_of_covers 5 _ (by decide +kernel) fun t _ y => ?_
  blk_simp
  rw [after0_5, out_eq m c t]
  exact point m c t y

end Cert.Kernel3Ideal.Whole

namespace Cert.Proof.NormMm

/-- The projection call and the reference end with the same result array, and both leave their arguments as they were. -/
theorem algebraic : Cert.algebraic_Kernel3Ideal_Reference3Ideal := by
  intro m ρ m' ρ' _ hag
  refine ⟨fun c => Cert.Kernel3Ideal.Whole.ref m c, ?_, ?_⟩
  · refine (θ_run Cert.Kernel3Ideal.defs _ _).mono (fun r h c => ?_) (Cert.Kernel3Ideal.Value.run (F := Ideal) m ρ)
    refine ⟨(h c).1.trans ?_, (h c).2⟩
    exact (Cert.Kernel3Ideal.Value.final5 m c).symm.trans (Cert.Kernel3Ideal.Whole.final m c)
  · refine (θ_run Cert.Reference3Ideal.defs _ _).mono (fun r h c => ⟨(h c).1.trans ?_, (h c).2⟩)
      (Cert.Reference3Ideal.Value.run (F := Ideal) m' ρ')
    obtain ⟨e0, e1, e2, e3⟩ := hag c
    rw [Cert.Reference3Ideal.Read.val_main_v23_eq, e0, e1, e2, e3]

end Cert.Proof.NormMm

end
-- ==== Proof.Merge.lean ====
/-
  The merging call (`merge`) is the reference's array.
-/
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Whole

open Cert.Kernel4Ideal Cert.Kernel4Ideal.Gen

variable (m : (ℓ : Loc nD τ sig) → Buf (Elt Ideal) ℓ)

/-- The index maps of the operands, in the point's number. -/
theorem idx : ∀ t : Fin cfg0.N, win0_0.index t = ![t.val / 16, t.val % 16, 0] ∧ win0_1.index t = ![t.val / 16, t.val % 16, 0]
    ∧ win0_2.index t = ![t.val / 16, t.val % 16, 0, 0] ∧ win0_3.index t = ![t.val / 16, t.val % 16, 0]
    ∧ win0_17.index t = ![t.val / 16, 0, 2] ∧ win0_18.index t = ![0, 0] ∧ win0_19.index t = ![0, 0] ∧ win0_20.index t = ![0, 0]
    ∧ win0_21.index t = ![0, 0] ∧ win0_22.index t = ![0, 0] ∧ win0_23.index t = ![t.val / 16, t.val % 16, 0] :=
  (by decide +kernel : ∀ t : Fin grid0.N, _)

/-- The index maps of the windows onto the projection, in the point's number. -/
theorem idx' : ∀ t : Fin cfg0.N, win0_4.index t = ![t.val / 16, t.val % 16, 1]
    ∧ win0_5.index t = ![t.val / 16, t.val % 16 * 32 - 1, 1] ∧ win0_6.index t = ![t.val / 16, min (t.val % 16 * 32 + 32) 511, 1]
    ∧ win0_7.index t = ![t.val / 16, t.val % 16, 2] ∧ win0_8.index t = ![t.val / 16, t.val % 16, 3]
    ∧ win0_9.index t = ![t.val / 16, t.val % 16 * 32 - 1, 3] ∧ win0_10.index t = ![t.val / 16, min (t.val % 16 * 32 + 32) 511, 3]
    ∧ win0_11.index t = ![t.val / 16, t.val % 16, 7] ∧ win0_12.index t = ![t.val / 16, t.val % 16, 8]
    ∧ win0_13.index t = ![t.val / 16, t.val % 16, 9] ∧ win0_14.index t = ![t.val / 16, t.val % 16, 10]
    ∧ win0_15.index t = ![t.val / 16, t.val % 16, 11] ∧ win0_16.index t = ![t.val / 16, t.val % 16, 12] :=
  (by decide +kernel : ∀ t : Fin grid0.N, _)

/-- The batch of point `t`. -/
abbrev bat (t : Fin cfg0.N) : Fin 4 := ⟨t.val / 16, by have h : t.val < 64 := t.isLt; omega⟩

/-- The position in the sequence of row `r` of point `t`. -/
abbrev pos (t : Fin cfg0.N) (r : Fin 256) : Fin 4096 := ⟨t.val % 16 * 256 + r.val, by have h : r.val < 256 := r.isLt; omega⟩

/-- The place in the result array of an element of point `t`'s rows. -/
abbrev at23 (t : Fin cfg0.N) (y : S256x1024.Idx) : S4x4096x1024.Idx := ix3 (bat t) (pos t (y 0)) (y 1)

/-- The reference's gated linear unit over the kernel's arguments. -/
abbrev refGlu (c : Dev nD) : FVec Ideal S4x4096x1024 .f32 :=
  Cert.Reference4Ideal.Read.val_main_v24 (F := Ideal) (m ((c : Thread nD τ).loc main_arg2)) (m ((c : Thread nD τ).loc main_arg6))

/-- The reference's short convolution branch over the kernel's arguments. -/
abbrev refConv (c : Dev nD) : FVec Ideal S4x4096x1024 .f32 :=
  Cert.Reference4Ideal.Read.val_main_v53 (F := Ideal) (m ((c : Thread nD τ).loc main_arg1)) (m ((c : Thread nD τ).loc main_arg7)) (m ((c : Thread nD τ).loc main_arg8))

/-- The reference's gated sum of the three branches over the kernel's arguments. -/
abbrev refMix (c : Dev nD) : FVec Ideal S4x4096x1024 .f32 :=
  Cert.Reference4Ideal.Read.val_main_v77 (F := Ideal) (m ((c : Thread nD τ).loc main_arg1)) (m ((c : Thread nD τ).loc main_arg2))
    (m ((c : Thread nD τ).loc main_arg3)) (m ((c : Thread nD τ).loc main_arg4)) (m ((c : Thread nD τ).loc main_arg6))
    (m ((c : Thread nD τ).loc main_arg7)) (m ((c : Thread nD τ).loc main_arg8)) (m ((c : Thread nD τ).loc main_arg9))

/-- The reference's result over the kernel's arguments. -/
abbrev ref (c : Dev nD) : FVec Ideal S4x4096x1024 .f32 :=
  Cert.Reference4Ideal.Read.val_main_v82 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The last row of an eight-row block. -/
abbrev lastRow (b : FVec Ideal S1x8x512 .f32) : FVec Ideal S1x1x512 .f32 := fun x => b (ix3 0 7 (x 2) : S1x8x512.Idx)

/-- The first row of an eight-row block. -/
abbrev firstRow (b : FVec Ideal S1x8x512 .f32) : FVec Ideal S1x1x512 .f32 := fun x => b (ix3 0 0 (x 2) : S1x8x512.Idx)

/-- Point `t`'s rows of the recurrence's output. -/
theorem blk1 (c : Dev nD) (t : Fin cfg0.N) : iblk m c 1 t
    = fun x : S1x256x512.Idx => (m ((c : Thread nD τ).loc main_arg2) : FVec Ideal S4x4096x512 .f32) (ix3 (bat t) (pos t (x 1)) (x 2)) := by
  funext x
  blk_point [iblk, V, idx t]

/-- Every point reads the whole of the gated linear unit's weights. -/
theorem blk18 (c : Dev nD) (t : Fin cfg0.N) : iblk m c 18 t
    = fun x : S512x2048.Idx => (m ((c : Thread nD τ).loc main_arg6) : FVec Ideal S512x2048 .bf16) (x) := by
  funext x
  blk_point [iblk, V, idx t]

/-- The two orders of a scaled product agree. -/
theorem half_comm (h a u : EReal) : h * a * u = a * (h * u) := by rw [mul_comm h a, mul_assoc]

open Cert.Reference4Ideal.Read in
/-- The gated linear unit of point `t`'s rows is the reference's. -/
theorem glu_eq (c : Dev nD) (t : Fin cfg0.N) (y : S256x1024.Idx) :
    k0_pay2 (F := Ideal) (iblk m c 1 t) (iblk m c 18 t) y = refGlu m c (at23 t y) := by
  rw [blk1, blk18]
  pointwise [k0_pay2, refGlu, at23, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3,
    val_main_cst_4]
  simp only [half_comm, Ideal.logistic]

/-- Point `t`'s rows of the long convolution's output gate. -/
theorem blk3 (c : Dev nD) (t : Fin cfg0.N) : iblk m c 3 t
    = fun x : S1x256x512.Idx => (m ((c : Thread nD τ).loc main_arg4) : FVec Ideal S4x4096x512 .f32) (ix3 (bat t) (pos t (x 1)) (x 2)) := by
  funext x
  blk_point [iblk, V, idx t]

/-- Point `t`'s block of the long convolution, channel by channel. -/
theorem blk2 (c : Dev nD) (t : Fin cfg0.N) : iblk m c 2 t
    = fun x : S1x1x512x256.Idx => (m ((c : Thread nD τ).loc main_arg3) : FVec Ideal S4x16x512x256 .f32) (ix4 (bat t) ⟨t.val % 16, by omega⟩ (x 2) (x 3)) := by
  funext x
  blk_point [iblk, V, idx t]

/-- Every point reads the whole of the long convolution's output weights. -/
theorem blk21 (c : Dev nD) (t : Fin cfg0.N) : iblk m c 21 t
    = fun x : S512x1024.Idx => (m ((c : Thread nD τ).loc main_arg9) : FVec Ideal S512x1024 .bf16) (x) := by
  funext x
  blk_point [iblk, V, idx t]

/-- Point `t`'s rows of the first half of the gate of branch 1. -/
theorem blk11 (c : Dev nD) (t : Fin cfg0.N) : iblk m c 11 t
    = fun x : S1x256x512.Idx => (m ((c : Thread nD τ).loc main_arg1) : FVec Ideal S4x4096x6656 .f32) (ix3 (bat t) (pos t (x 1)) ⟨3584 + (x 2).val, by have h : (x 2).val < 512 := (x 2).isLt; omega⟩) := by
  funext x
  blk_point [iblk, V, idx' t]

/-- Point `t`'s rows of the second half of the gate of branch 1. -/
theorem blk12 (c : Dev nD) (t : Fin cfg0.N) : iblk m c 12 t
    = fun x : S1x256x512.Idx => (m ((c : Thread nD τ).loc main_arg1) : FVec Ideal S4x4096x6656 .f32) (ix3 (bat t) (pos t (x 1)) ⟨4096 + (x 2).val, by have h : (x 2).val < 512 := (x 2).isLt; omega⟩) := by
  funext x
  blk_point [iblk, V, idx' t]

/-- Point `t`'s rows of the first half of the gate of branch 2. -/
theorem blk13 (c : Dev nD) (t : Fin cfg0.N) : iblk m c 13 t
    = fun x : S1x256x512.Idx => (m ((c : Thread nD τ).loc main_arg1) : FVec Ideal S4x4096x6656 .f32) (ix3 (bat t) (pos t (x 1)) ⟨4608 + (x 2).val, by have h : (x 2).val < 512 := (x 2).isLt; omega⟩) := by
  funext x
  blk_point [iblk, V, idx' t]

/-- Point `t`'s rows of the second half of the gate of branch 2. -/
theorem blk14 (c : Dev nD) (t : Fin cfg0.N) : iblk m c 14 t
    = fun x : S1x256x512.Idx => (m ((c : Thread nD τ).loc main_arg1) : FVec Ideal S4x4096x6656 .f32) (ix3 (bat t) (pos t (x 1)) ⟨5120 + (x 2).val, by have h : (x 2).val < 512 := (x 2).isLt; omega⟩) := by
  funext x
  blk_point [iblk, V, idx' t]

/-- Point `t`'s rows of the first half of the gate of branch 3. -/
theorem blk15 (c : Dev nD) (t : Fin cfg0.N) : iblk m c 15 t
    = fun x : S1x256x512.Idx => (m ((c : Thread nD τ).loc main_arg1) : FVec Ideal S4x4096x6656 .f32) (ix3 (bat t) (pos t (x 1)) ⟨5632 + (x 2).val, by have h : (x 2).val < 512 := (x 2).isLt; omega⟩) := by
  funext x
  blk_point [iblk, V, idx' t]

/-- Point `t`'s rows of the second half of the gate of branch 3. -/
theorem blk16 (c : Dev nD) (t : Fin cfg0.N) : iblk m c 16 t
    = fun x : S1x256x512.Idx => (m ((c : Thread nD τ).loc main_arg1) : FVec Ideal S4x4096x6656 .f32) (ix3 (bat t) (pos t (x 1)) ⟨6144 + (x 2).val, by have h : (x 2).val < 512 := (x 2).isLt; omega⟩) := by
  funext x
  blk_point [iblk, V, idx' t]

open Cert.Reference4Ideal.Read in
/-- The gated sum of the branches, given the first two, is the reference's. -/
theorem mix_eq (c : Dev nD) (t : Fin cfg0.N) (a b : FVec Ideal S256x1024 .f32) (ha : ∀ x, a x = refGlu m c (at23 t x))
    (hb : ∀ x, b x = refConv m c (at23 t x)) (y : S256x1024.Idx) :
    k0_pay6 (F := Ideal) a b (iblk m c 3 t) (iblk m c 2 t) (iblk m c 21 t) (iblk m c 11 t) (iblk m c 12 t) (iblk m c 13 t)
      (iblk m c 14 t) (iblk m c 15 t) (iblk m c 16 t) y = refMix m c (at23 t y) := by
  have hy : (y 0).val < 256 := (y 0).isLt
  have ht : t.val < 64 := t.isLt
  have d1 : (t.val % 16 * 256 + (y 0).val) / 256 = t.val % 16 := by omega
  have d2 : (t.val % 16 * 256 + (y 0).val) % 256 = (y 0).val := by omega
  obtain rfl : a = fun x => refGlu m c (at23 t x) := funext ha
  obtain rfl : b = fun x => refConv m c (at23 t x) := funext hb
  rw [blk3, blk2, blk21, blk11, blk12, blk13, blk14, blk15, blk16]
  pointwise [k0_pay6, refMix, at23, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_cst_5, val_main_cst_6]
  simp only [Ideal.logistic, d1, d2]
  have a2 : 3584 + (1024 + (y 1).val) = 4608 + (y 1).val := by omega
  have a3 : 3584 + (2048 + (y 1).val) = 5632 + (y 1).val := by omega
  by_cases h : (y 1).val < 512
  · simp only [h, ↓reduceDIte, refGlu, refConv, at23, a2, a3]
    rfl
  · have b1 : 4096 + ((y 1).val - 512) = 3584 + (y 1).val := by omega
    have b2 : 5120 + ((y 1).val - 512) = 4608 + (y 1).val := by omega
    have b3 : 6144 + ((y 1).val - 512) = 5632 + (y 1).val := by omega
    simp only [h, ↓reduceDIte, refGlu, refConv, at23, a2, a3, b1, b2, b3]
    rfl

/-- Point `t`'s rows of the layer's input. -/
theorem blk0 (c : Dev nD) (t : Fin cfg0.N) : iblk m c 0 t
    = fun x : S1x256x1024.Idx => (m ((c : Thread nD τ).loc main_arg0) : FVec Ideal S4x4096x1024 .f32) (ix3 (bat t) (pos t (x 1)) (x 2)) := by
  funext x
  blk_point [iblk, V, idx t]

/-- Every point reads the whole of the output weights. -/
theorem blk22 (c : Dev nD) (t : Fin cfg0.N) : iblk m c 22 t
    = fun x : S1024x1024.Idx => (m ((c : Thread nD τ).loc main_arg10) : FVec Ideal S1024x1024 .bf16) (x) := by
  funext x
  blk_point [iblk, V, idx t]

/-- Point `t`'s residual gate. -/
theorem blk17 (c : Dev nD) (t : Fin cfg0.N) : iblk m c 17 t
    = fun x : S1x1x1024.Idx => (m ((c : Thread nD τ).loc main_arg5) : FVec Ideal S8x1x6144 .f32) (ix3 ⟨t.val / 16, by have h : t.val < 64 := t.isLt; omega⟩ (0 : Fin 1) ⟨2048 + (x 2).val, by have h : (x 2).val < 1024 := (x 2).isLt; omega⟩) := by
  funext x
  blk_point [iblk, V, idx t]

/-- The place in the result array of an element of point `t`'s block. -/
theorem emb23 (t : Fin cfg0.N) (y : S1x256x1024.Idx) : ((cfg0.win 23).blk t).view.emb y = (ix3 (bat t) (pos t (y 1)) (y 2) : S4x4096x1024.Idx) := by
  blk_ext [idx t]

open Cert.Reference4Ideal.Read in
/-- The block stored at point `t`, given the gated sum, is the reference read at the place it has in the array. -/
theorem out_eq (c : Dev nD) (t : Fin cfg0.N) (a : FVec Ideal S256x1024 .f32) (ha : ∀ x, a x = refMix m c (at23 t x)) (y : S1x256x1024.Idx) :
    k0_pay1 (F := Ideal) a (iblk m c 0 t) (iblk m c 17 t) (iblk m c 22 t) y = ref m c (((cfg0.win 23).blk t).view.emb y) := by
  obtain rfl : a = fun x => refMix m c (at23 t x) := funext ha
  rw [emb23, blk0, blk17, blk22]
  pointwise [k0_pay1, ref, at23, val_main_v0, val_main_v78, val_main_v79, val_main_v80, val_main_v81, val_main_v82]
  done

/-- The test for a sequence's first point. -/
theorem first_bit : ∀ t : Fin cfg0.N, Scalar.cmpi .eq (BitVec.ofNat 32 (grid0.coords t 1).val) 0#32 = if t.val % 16 = 0 then 1#1 else 0#1 :=
  (by decide +kernel : ∀ t : Fin grid0.N, _)

/-- The test for a sequence's last point. -/
theorem last_bit : ∀ t : Fin cfg0.N, Scalar.cmpi .eq (BitVec.ofNat 32 (grid0.coords t 1).val) 15#32 = if t.val % 16 = 15 then 1#1 else 0#1 :=
  (by decide +kernel : ∀ t : Fin grid0.N, _)

/-- Point `t`'s rows of the short convolution's output gate. -/
theorem blk7 (c : Dev nD) (t : Fin cfg0.N) : iblk m c 7 t
    = fun x : S1x256x512.Idx => (m ((c : Thread nD τ).loc main_arg1) : FVec Ideal S4x4096x6656 .f32) (ix3 (bat t) (pos t (x 1)) ⟨512 + (512 + (x 2).val), by have h : (x 2).val < 512 := (x 2).isLt; omega⟩) := by
  funext x
  blk_point [iblk, V, idx' t]

/-- Every point reads the three taps. -/
theorem blk19 (c : Dev nD) (t : Fin cfg0.N) : iblk m c 19 t
    = fun x : S3x512.Idx => (m ((c : Thread nD τ).loc main_arg7) : FVec Ideal S3x512 .f32) (x) := by
  funext x
  blk_point [iblk, V, idx t]

/-- Every point reads the whole of the short convolution's output weights. -/
theorem blk20 (c : Dev nD) (t : Fin cfg0.N) : iblk m c 20 t
    = fun x : S512x1024.Idx => (m ((c : Thread nD τ).loc main_arg8) : FVec Ideal S512x1024 .bf16) (x) := by
  funext x
  blk_point [iblk, V, idx t]

/-- The product the short convolution runs over, at a position counted from zero; past the end zero. -/
def prod (p : FVec Ideal S4x4096x6656 .f32) (b : Fin 4) (x : Fin 512) (n : ℕ) : EReal :=
  if h : n < 4096 then
    p (ix3 b ⟨n, h⟩ ⟨512 + (1024 + x.val), by omega⟩) * p (ix3 b ⟨n, h⟩ ⟨512 + x.val, by omega⟩)
  else 0

/-- Row `r` of the two blocks of point `t` holds the factors of the product. -/
theorem prod_cur (c : Dev nD) (t : Fin cfg0.N) (r : Fin 256) (x : Fin 512) :
    @HMul.hMul EReal EReal EReal _ (iblk m c 8 t (ix3 0 r x : S1x256x512.Idx)) (iblk m c 4 t (ix3 0 r x : S1x256x512.Idx))
      = prod (m ((c : Thread nD τ).loc main_arg1)) (bat t) x (t.val % 16 * 256 + r.val) := by
  unfold prod
  rw [dif_pos (by omega)]
  blk_point [iblk, V, idx' t]

/-- The last row of the blocks before point `t`'s holds the factors of the product. -/
theorem prod_prev (c : Dev nD) (t : Fin cfg0.N) (x : Fin 512) :
    @HMul.hMul EReal EReal EReal _ (iblk m c 9 t (ix3 0 7 x : S1x8x512.Idx)) (iblk m c 5 t (ix3 0 7 x : S1x8x512.Idx))
      = prod (m ((c : Thread nD τ).loc main_arg1)) (bat t) x ((t.val % 16 * 32 - 1) * 8 + 7) := by
  unfold prod
  rw [dif_pos (by omega)]
  blk_point [iblk, V, idx' t]

/-- The first row of the blocks after point `t`'s holds the factors of the product. -/
theorem prod_next (c : Dev nD) (t : Fin cfg0.N) (x : Fin 512) :
    @HMul.hMul EReal EReal EReal _ (iblk m c 10 t (ix3 0 0 x : S1x8x512.Idx)) (iblk m c 6 t (ix3 0 0 x : S1x8x512.Idx))
      = prod (m ((c : Thread nD τ).loc main_arg1)) (bat t) x (min (t.val % 16 * 32 + 32) 511 * 8) := by
  unfold prod
  rw [dif_pos (by omega)]
  blk_point [iblk, V, idx' t]

/-- The rotated rows with the edge row put in are the rows one earlier, zero before the start. -/
theorem prev_sel (i r : ℕ) (hi : i < 16) (hr : r < 256) (f : ℕ → EReal) :
    Scalar.select (IntOp.cmpi CmpIPredicate.eq (BitVec.ofNat 32 r) 0#32)
      (Scalar.select (if i = 0 then 1#1 else 0#1) 0 (f ((i * 32 - 1) * 8 + 7))) (f (i * 256 + (r + 256 - 1) % 256))
    = if 1 ≤ i * 256 + r ∧ i * 256 + r - 1 < 4096 then f (i * 256 + r - 1) else 0 := by
  by_cases h : r = 0
  · subst h
    by_cases h' : i = 0
    · subst h'
      simp [Scalar.select, IntOp.cmpi]
    · refine Eq.trans ?_ (if_pos (by omega)).symm
      have e : (i * 32 - 1) * 8 + 7 = i * 256 + 0 - 1 := by omega
      simp [Scalar.select, IntOp.cmpi, h', e]
  · have e : i * 256 + (r + 256 - 1) % 256 = i * 256 + r - 1 := by omega
    have ne : (BitVec.ofNat 32 r == 0#32) = false :=
      beq_eq_false_iff_ne.2 fun q => h (by have := congrArg BitVec.toNat q; simp at this; omega)
    refine Eq.trans ?_ (if_pos (by omega)).symm
    rw [e]
    simp [Scalar.select, IntOp.cmpi, ne]

/-- The rotated rows with the edge row put in are the rows one later, zero past the end. -/
theorem next_sel (i r : ℕ) (hi : i < 16) (hr : r < 256) (f : ℕ → EReal) :
    Scalar.select (IntOp.cmpi CmpIPredicate.eq (BitVec.ofNat 32 r) 255#32)
      (Scalar.select (if i = 15 then 1#1 else 0#1) 0 (f (min (i * 32 + 32) 511 * 8))) (f (i * 256 + (r + 256 - 255) % 256))
    = if 1 ≤ 2 + (i * 256 + r) ∧ 2 + (i * 256 + r) - 1 < 4096 then f (2 + (i * 256 + r) - 1) else 0 := by
  by_cases h : r = 255
  · subst h
    by_cases h' : i = 15
    · subst h'
      simp [Scalar.select, IntOp.cmpi]
    · refine Eq.trans ?_ (if_pos (by omega)).symm
      have e : min (i * 32 + 32) 511 * 8 = 2 + (i * 256 + 255) - 1 := by omega
      simp [Scalar.select, IntOp.cmpi, h', e]
  · have e : i * 256 + (r + 256 - 255) % 256 = 2 + (i * 256 + r) - 1 := by omega
    have ne : (BitVec.ofNat 32 r == 255#32) = false :=
      beq_eq_false_iff_ne.2 fun q => h (by have := congrArg BitVec.toNat q; simp at this; omega)
    refine Eq.trans ?_ (if_pos (by omega)).symm
    rw [e]
    simp [Scalar.select, IntOp.cmpi, ne]

/-- The integer zero converted is zero. -/
theorem zero_word : (FloatOps.sitofp .f32 0#32 : Ideal .f32) = (0 : EReal) := by
  show ((((0#32 : BitVec 32).toInt : ℝ)) : EReal) = 0
  simp

/-- The product one position earlier or later, zero outside the sequence, as the reference reads its padding. -/
theorem padded (p : FVec Ideal S4x4096x6656 .f32) (b : ℕ) (hb : b < 4) (x : Fin 512) (n : ℕ) :
    (if 1 ≤ n ∧ n - 1 < 4096 then prod p ⟨b, hb⟩ x (n - 1) else 0)
      = if h : b < 4 ∧ 1 ≤ n ∧ n - 1 < 4096 then
          @HMul.hMul EReal EReal EReal _ (p (ix3 ⟨b, h.1⟩ ⟨n - 1, h.2.2⟩ ⟨512 + (1024 + x.val), by omega⟩))
            (p (ix3 ⟨b, h.1⟩ ⟨n - 1, h.2.2⟩ ⟨512 + x.val, by omega⟩))
        else (FloatOps.sitofp .f32 0#32 : Ideal .f32) := by
  by_cases h : 1 ≤ n ∧ n - 1 < 4096
  · rw [if_pos h, dif_pos ⟨hb, h⟩]
    unfold prod
    rw [dif_pos h.2]
  · rw [if_neg h, dif_neg fun q => h q.2]
    exact zero_word.symm

/-- The product at a position inside the sequence, as the reference reads its padding. -/
theorem padded_cur (p : FVec Ideal S4x4096x6656 .f32) (b : ℕ) (hb : b < 4) (x : Fin 512) (n : ℕ) (hn : n < 4096) :
    prod p ⟨b, hb⟩ x n
      = if h : b < 4 ∧ n < 4096 then
          @HMul.hMul EReal EReal EReal _ (p (ix3 ⟨b, h.1⟩ ⟨n, h.2⟩ ⟨512 + (1024 + x.val), by omega⟩))
            (p (ix3 ⟨b, h.1⟩ ⟨n, h.2⟩ ⟨512 + x.val, by omega⟩))
        else (FloatOps.sitofp .f32 0#32 : Ideal .f32) := by
  unfold prod
  rw [dif_pos hn, dif_pos ⟨hb, hn⟩]

/-- The rows one earlier, as the kernel selects them, hold the product one position earlier. -/
theorem prev_row (c : Dev nD) (t : Fin cfg0.N) (r : Fin 256) (x : Fin 512) (hr : (r.val + 256 - 1) % 256 < 256) :
    Scalar.select (IntOp.cmpi CmpIPredicate.eq (BitVec.ofNat 32 r.val) 0#32)
      (Scalar.select (if t.val % 16 = 0 then 1#1 else 0#1) (0 : EReal)
        (@HMul.hMul EReal EReal EReal _ (iblk m c 9 t (ix3 0 7 x : S1x8x512.Idx)) (iblk m c 5 t (ix3 0 7 x : S1x8x512.Idx))))
      (@HMul.hMul EReal EReal EReal _ (iblk m c 8 t (ix3 0 ⟨(r.val + 256 - 1) % 256, hr⟩ x : S1x256x512.Idx)) (iblk m c 4 t (ix3 0 ⟨(r.val + 256 - 1) % 256, hr⟩ x : S1x256x512.Idx)))
    = if 1 ≤ t.val % 16 * 256 + r.val ∧ t.val % 16 * 256 + r.val - 1 < 4096 then
        prod (m ((c : Thread nD τ).loc main_arg1)) (bat t) x (t.val % 16 * 256 + r.val - 1) else 0 := by
  rw [prod_prev m c t x, prod_cur m c t ⟨(r.val + 256 - 1) % 256, hr⟩ x]
  exact prev_sel (t.val % 16) r.val (by omega) r.isLt _

/-- The rows one later, as the kernel selects them, hold the product one position later. -/
theorem next_row (c : Dev nD) (t : Fin cfg0.N) (r : Fin 256) (x : Fin 512) (hr : (r.val + 256 - 255) % 256 < 256) :
    Scalar.select (IntOp.cmpi CmpIPredicate.eq (BitVec.ofNat 32 r.val) 255#32)
      (Scalar.select (if t.val % 16 = 15 then 1#1 else 0#1) (0 : EReal)
        (@HMul.hMul EReal EReal EReal _ (iblk m c 10 t (ix3 0 0 x : S1x8x512.Idx)) (iblk m c 6 t (ix3 0 0 x : S1x8x512.Idx))))
      (@HMul.hMul EReal EReal EReal _ (iblk m c 8 t (ix3 0 ⟨(r.val + 256 - 255) % 256, hr⟩ x : S1x256x512.Idx)) (iblk m c 4 t (ix3 0 ⟨(r.val + 256 - 255) % 256, hr⟩ x : S1x256x512.Idx)))
    = if 1 ≤ 2 + (t.val % 16 * 256 + r.val) ∧ 2 + (t.val % 16 * 256 + r.val) - 1 < 4096 then
        prod (m ((c : Thread nD τ).loc main_arg1)) (bat t) x (2 + (t.val % 16 * 256 + r.val) - 1) else 0 := by
  rw [prod_next m c t x, prod_cur m c t ⟨(r.val + 256 - 255) % 256, hr⟩ x]
  exact next_sel (t.val % 16) r.val (by omega) r.isLt _

open Cert.Reference4Ideal.Read in
/-- The short convolution branch of point `t`'s rows is the reference's. -/
theorem conv_eq (c : Dev nD) (t : Fin cfg0.N) (y : S256x1024.Idx) :
    k0_pay5 (F := Ideal) (if t.val % 16 = 0 then 1#1 else 0#1) (if t.val % 16 = 15 then 1#1 else 0#1)
      (k0_pay3 (iblk m c 8 t) (iblk m c 4 t)) (k0_pay4 (lastRow (iblk m c 9 t)) (lastRow (iblk m c 5 t)))
      (firstRow (iblk m c 10 t)) (firstRow (iblk m c 6 t)) (iblk m c 7 t) (iblk m c 19 t) (iblk m c 20 t) y = refConv m c (at23 t y) := by
  have hy : (y 0).val < 256 := (y 0).isLt
  have ht : t.val < 64 := t.isLt
  rw [blk7, blk19, blk20]
  pointwise [k0_pay5, k0_pay3, k0_pay4, refConv, at23, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_c, val_main_call0_v0, lastRow, firstRow]
  refine Finset.sum_congr rfl fun x _ => ?_
  refine congrArg₂ (· * ·) (congrArg₂ (· * ·) rfl (congrArg₂ (· + ·) (congrArg₂ (· + ·)
    (congrArg₂ (· * ·) rfl ((prev_row m c t (y 0) x _).trans ?_))
    (congrArg₂ (· * ·) rfl ((prod_cur m c t (y 0) x).trans ?_))) (congrArg₂ (· * ·) rfl ((next_row m c t (y 0) x _).trans ?_)))) rfl
  · exact padded (m ((c : Thread nD τ).loc main_arg1)) (t.val / 16) (by omega) x (t.val % 16 * 256 + (y 0).val)
  · exact padded_cur (m ((c : Thread nD τ).loc main_arg1)) (t.val / 16) (by omega) x (t.val % 16 * 256 + (y 0).val) (by omega)
  · exact padded (m ((c : Thread nD τ).loc main_arg1)) (t.val / 16) (by omega) x (2 + (t.val % 16 * 256 + (y 0).val))

/-- What point `t` stores, in the body's payloads of the blocks and of the edge rows of the neighbouring blocks. -/
theorem stored (c : Dev nD) (t : Fin cfg0.N) :
    out0_23 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
      = k0_pay1 (F := Ideal) (k0_pay6 (k0_pay2 (iblk m c 1 t) (iblk m c 18 t))
          (k0_pay5 (if t.val % 16 = 0 then 1#1 else 0#1) (if t.val % 16 = 15 then 1#1 else 0#1)
            (k0_pay3 (iblk m c 8 t) (iblk m c 4 t)) (k0_pay4 (lastRow (iblk m c 9 t)) (lastRow (iblk m c 5 t)))
            (firstRow (iblk m c 10 t)) (firstRow (iblk m c 6 t)) (iblk m c 7 t) (iblk m c 19 t) (iblk m c 20 t))
          (iblk m c 3 t) (iblk m c 2 t) (iblk m c 21 t) (iblk m c 11 t) (iblk m c 12 t) (iblk m c 13 t)
          (iblk m c 14 t) (iblk m c 15 t) (iblk m c 16 t)) (iblk m c 0 t) (iblk m c 17 t) (iblk m c 22 t) := by
  unfold out0_23
  rw [first_bit t, last_bit t]
  frame_out
  congr 4 <;> (funext x; pointwise [lastRow, firstRow])

/-- The kernel's result array is the reference's. -/
theorem final (c : Dev nD) : (dats m 0 c).arrAt 23 cfg0.N = ref m c := by
  refine (dats m 0 c).arrAt_eq_of_covers 23 _ (by decide +kernel) fun t hf y => ?_
  blk_simp
  rw [after0_23, stored]
  exact out_eq m c t _ (fun x => mix_eq m c t _ _ (glu_eq m c t) (conv_eq m c t) x) y

end Cert.Kernel4Ideal.Whole

namespace Cert.Proof.Merge

/-- The merging call and the reference end with the same result array, and both leave their arguments as they were. -/
theorem algebraic : Cert.algebraic_Kernel4Ideal_Reference4Ideal := by
  intro m ρ m' ρ' _ hag
  refine ⟨fun c => Cert.Kernel4Ideal.Whole.ref m c, ?_, ?_⟩
  · refine (θ_run Cert.Kernel4Ideal.defs _ _).mono (fun r h c => ?_) (Cert.Kernel4Ideal.Gen.run_main m ρ)
    exact ⟨(Cert.Kernel4Ideal.Value.post23 m r h c).trans (Cert.Kernel4Ideal.Whole.final m c),
      Cert.Kernel4Ideal.Value.kept_main_arg0 m r h c, Cert.Kernel4Ideal.Value.kept_main_arg1 m r h c,
      Cert.Kernel4Ideal.Value.kept_main_arg2 m r h c, Cert.Kernel4Ideal.Value.kept_main_arg3 m r h c,
      Cert.Kernel4Ideal.Value.kept_main_arg4 m r h c, Cert.Kernel4Ideal.Value.kept_main_arg5 m r h c,
      Cert.Kernel4Ideal.Value.kept_main_arg6 m r h c, Cert.Kernel4Ideal.Value.kept_main_arg7 m r h c,
      Cert.Kernel4Ideal.Value.kept_main_arg8 m r h c, Cert.Kernel4Ideal.Value.kept_main_arg9 m r h c,
      Cert.Kernel4Ideal.Value.kept_main_arg10 m r h c⟩
  · refine (θ_run Cert.Reference4Ideal.defs _ _).mono (fun r h c => ⟨(h c).1.trans ?_, (h c).2⟩)
      (Cert.Reference4Ideal.Value.run (F := Ideal) m' ρ')
    obtain ⟨e0, e1, e2, e3, e4, e5, e6, e7, e8, e9, e10⟩ := hag c
    rw [Cert.Reference4Ideal.Read.val_main_v82_eq, e0, e1, e2, e3, e4, e5, e6, e7, e8, e9, e10]

end Cert.Proof.Merge

end
-- ==== Proof.MlpPlain.lean ====
/-
  The feed-forward call (`mlp`) without the last normalisation is the reference's array.
-/
module

public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Whole

open Cert.Kernel5Ideal Cert.Kernel5Ideal.Gen

variable (m : (ℓ : Loc nD τ sig) → Buf (Elt Ideal) ℓ)

/-- The index maps of all the windows, in the point's number. -/
theorem idx : ∀ t : Fin cfg0.N, win0_0.index t = ![t.val / 16, t.val / 4 % 4, 0] ∧ win0_1.index t = ![0, 0]
    ∧ win0_2.index t = ![t.val / 16, 0, 3] ∧ win0_3.index t = ![t.val / 16, 0, 4] ∧ win0_4.index t = ![t.val / 16, 0, 5]
    ∧ win0_5.index t = ![0, t.val % 4] ∧ win0_6.index t = ![t.val % 4, 0] ∧ win0_7.index t = ![0, 0]
    ∧ win0_8.index t = ![t.val / 16, t.val / 4 % 4, 0] :=
  (by decide +kernel : ∀ t : Fin grid0.N, _)

/-- The normalised and modulated rows of point `t`'s block of `x`. -/
abbrev hid (c : Dev nD) (t : Fin cfg0.N) : FVec Ideal S1024x1024 .bf16 :=
  k0_pay1 (F := Ideal) (iblk m c 0 t) (iblk m c 1 t) (iblk m c 2 t) (iblk m c 3 t)

/-- What point `t` adds to the accumulator `a`: its slab of the squared rectified hidden layer times its slab of the second weights. -/
abbrev step (c : Dev nD) (t : Fin cfg0.N) (a : FVec Ideal S1024x1024 .f32) : FVec Ideal S1024x1024 .f32 :=
  k0_pay3 (F := Ideal) (hid m c t) (iblk m c 5 t) a (iblk m c 6 t)

/-- Within a run of four points the blocks of the inputs of the normalisation do not move. -/
theorem hid_pred (c : Dev nD) (t : Fin cfg0.N) (h0 : ¬ t.val % 4 = 0) (hp : t.val - 1 < cfg0.N) :
    hid m c ⟨t.val - 1, hp⟩ = hid m c t := by
  have e0 : iblk m c 0 ⟨t.val - 1, hp⟩ = iblk m c 0 t := by
    funext y; blk_point [iblk, V, idx t, idx ⟨t.val - 1, hp⟩]
  have e1 : iblk m c 1 ⟨t.val - 1, hp⟩ = iblk m c 1 t := by
    funext y; blk_point [iblk, V, idx t, idx ⟨t.val - 1, hp⟩]
  have e2 : iblk m c 2 ⟨t.val - 1, hp⟩ = iblk m c 2 t := by
    funext y; blk_point [iblk, V, idx t, idx ⟨t.val - 1, hp⟩]
  have e3 : iblk m c 3 ⟨t.val - 1, hp⟩ = iblk m c 3 t := by
    funext y; blk_point [iblk, V, idx t, idx ⟨t.val - 1, hp⟩]
  unfold hid
  rw [e0, e1, e2, e3]

/-- At the first point of a run of four the first scratch is written from the point's own blocks. -/
theorem rows_first (c : Dev nD) (t : Fin cfg0.N) (h0 : t.val % 4 = 0) : (outsAt0 m c t.val t.isLt).2.1 = hid m c t := by
  rw [outsAt0_A m c t h0 (by omega)]
  frame_out

/-- The first scratch after point `t` holds the rows normalised from point `t`'s blocks. -/
theorem rows (c : Dev nD) : ∀ (n : ℕ) (h : n < cfg0.N), (outsAt0 m c n h).2.1 = hid m c ⟨n, h⟩
  | 0, h => rows_first m c ⟨0, h⟩ rfl
  | n + 1, h => by
    by_cases h0 : (n + 1) % 4 = 0
    · exact rows_first m c ⟨n + 1, h⟩ h0
    · by_cases h1 : (n + 1) % 4 = 3
      · rw [outsAt0_C m c ⟨n + 1, h⟩ h0 h1]
        exact (rows c n (Nat.lt_of_succ_lt h)).trans (hid_pred m c ⟨n + 1, h⟩ h0 (Nat.lt_of_succ_lt h))
      · rw [outsAt0_B m c ⟨n + 1, h⟩ h0 h1]
        exact (rows c n (Nat.lt_of_succ_lt h)).trans (hid_pred m c ⟨n + 1, h⟩ h0 (Nat.lt_of_succ_lt h))

/-- Reading back the first scratch through its whole window gives the rows written. -/
theorem rows_read (h : FVec Ideal S1024x1024 .bf16) :
    View.read (Elt Ideal) (View.whole cc0_scratch0) ((Memref.isWhole_whole cc0_scratch0).unread h) = h :=
  (Memref.isWhole_whole cc0_scratch0).read_unread _

/-- Reading back the second scratch through its whole window gives the sums written. -/
theorem sums_read (h : FVec Ideal S1024x1024 .f32) :
    View.read (Elt Ideal) (View.whole cc0_scratch1) ((Memref.isWhole_whole cc0_scratch1).unread h) = h :=
  (Memref.isWhole_whole cc0_scratch1).read_unread _

/-- At the first point of a run of four the accumulator starts from zero. -/
theorem sums_first (c : Dev nD) (t : Fin cfg0.N) (h0 : t.val % 4 = 0) :
    (outsAt0 m c t.val t.isLt).2.2 = step m c t (k0_pay2 (F := Ideal)) := by
  rw [outsAt0_A m c t h0 (by omega)]
  frame_out

/-- At the other points of a run the accumulator goes on from what the point before left. -/
theorem sums_next (c : Dev nD) (t : Fin cfg0.N) (h0 : ¬ t.val % 4 = 0) (hp : t.val - 1 < cfg0.N) :
    (outsAt0 m c t.val t.isLt).2.2 = step m c t (outsAt0 m c (t.val - 1) hp).2.2 := by
  by_cases h1 : t.val % 4 = 3
  · rw [outsAt0_C m c t h0 h1]
    frame_out
    rw [rows m c (t.val - 1) _, hid_pred m c t h0]
    simp only [rows_read, sums_read]
  · rw [outsAt0_B m c t h0 h1]
    frame_out
    rw [rows m c (t.val - 1) _, hid_pred m c t h0]
    simp only [rows_read, sums_read]

/-- The output block after the last point of a run: the residual sum. -/
theorem out_eq (c : Dev nD) (t : Fin cfg0.N) (h1 : t.val % 4 = 3) : (outsAt0 m c t.val t.isLt).1
    = k0_pay4 (F := Ideal) (iblk m c 0 t) (iblk m c 4 t) (outsAt0 m c t.val t.isLt).2.2 := by
  rw [sums_next m c t (by omega) (by omega), outsAt0_C m c t (by omega) h1]
  frame_out
  rw [rows m c (t.val - 1) _, hid_pred m c t (by omega)]
  simp only [rows_read, sums_read]

/-- The reference's second product over the kernel's arguments. -/
abbrev refSum (c : Dev nD) : FVec Ideal S4x4096x1024 .f32 :=
  Cert.Reference5Ideal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's whole result over the kernel's arguments. -/
abbrev ref (c : Dev nD) : FVec Ideal S4x4096x1024 .f32 :=
  Cert.Reference5Ideal.Read.val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

open Cert.Reference5Ideal.Read in
/-- Four steps of the accumulator over a run's points are the reference's product over all the hidden columns. -/
theorem sums_eq (c : Dev nD) (t t1 t2 t3 : Fin cfg0.N) (h1 : t1.val = t.val + 1) (h2 : t2.val = t.val + 2) (h3 : t3.val = t.val + 3)
    (h0 : t.val % 4 = 0) (y : S1024x1024.Idx) :
    step m c t3 (step m c t2 (step m c t1 (step m c t (k0_pay2 (F := Ideal))))) y
      = refSum m c (((cfg0.win 8).blk t3).view.emb (ix3 0 (y 0) (y 1) : S1x1024x1024.Idx)) := by
  pointwise [step, k0_pay2, k0_pay3, k0_pay1, hid, refSum,
    val_main_v0, val_main_v1, val_main_v2, val_main_v3, val_main_v4, val_main_cst, val_main_v5, val_main_v6, val_main_cst_0,
    val_main_v7, val_main_v8, val_main_cst_1, val_main_v9, val_main_v10, val_main_v11, val_main_v12, val_main_v13, val_main_v14,
    val_main_v15, val_main_v16, val_main_cst_2, val_main_v17, val_main_v18, val_main_v19, val_main_v20, val_main_v21,
    val_main_v22, val_main_v23, val_main_v24, val_main_call0_cst, val_main_call0_v0, val_main_v25, val_main_v26, val_main_v27,
    val_main_v28]
  rw [Fin.sum_univ_tiles 4 1024 rfl, Fin.sum_univ_four]
  blk_point [iblk, V, idx t, idx t1, idx t2, idx t3]

open Cert.Reference5Ideal.Read in
/-- The block stored at the last point of a run, read at `y`, is the reference read at the place `y` has in the array. -/
theorem point (c : Dev nD) (t : Fin cfg0.N) (a : FVec Ideal S1024x1024 .f32)
    (ha : ∀ x : S1024x1024.Idx, a x = refSum m c (((cfg0.win 8).blk t).view.emb (ix3 0 (x 0) (x 1) : S1x1024x1024.Idx))) (y : S1x1024x1024.Idx) :
    k0_pay4 (F := Ideal) (iblk m c 0 t) (iblk m c 4 t) a y = ref m c (((cfg0.win 8).blk t).view.emb y) := by
  obtain rfl : a = fun x => refSum m c (((cfg0.win 8).blk t).view.emb (ix3 0 (x 0) (x 1) : S1x1024x1024.Idx)) := funext ha
  pointwise [k0_pay4, ref,
    val_main_v0, val_main_v3, val_main_v29, val_main_v30, val_main_v31]
  blk_point [iblk, V, idx t, refSum]

/-- The accumulator after the last point of a run is the reference's product at the run's rows. -/
theorem sums_last (c : Dev nD) (t : Fin cfg0.N) (h : t.val % 4 = 3) (y : S1024x1024.Idx) :
    (outsAt0 m c t.val t.isLt).2.2 y = refSum m c (((cfg0.win 8).blk t).view.emb (ix3 0 (y 0) (y 1) : S1x1024x1024.Idx)) := by
  have hN : t.val < cfg0.N := t.isLt
  have p0 : t.val - 3 < cfg0.N := by omega
  have p1 : t.val - 2 < cfg0.N := by omega
  have p2 : t.val - 1 < cfg0.N := by omega
  have e1 : (outsAt0 m c (t.val - 1) p2).2.2 = step m c ⟨t.val - 1, p2⟩ (outsAt0 m c (t.val - 2) p1).2.2 :=
    sums_next m c ⟨t.val - 1, p2⟩ (by simp only; omega) p1
  have e2 : (outsAt0 m c (t.val - 2) p1).2.2 = step m c ⟨t.val - 2, p1⟩ (outsAt0 m c (t.val - 3) p0).2.2 :=
    sums_next m c ⟨t.val - 2, p1⟩ (by simp only; omega) p0
  have e3 : (outsAt0 m c (t.val - 3) p0).2.2 = step m c ⟨t.val - 3, p0⟩ (k0_pay2 (F := Ideal)) :=
    sums_first m c ⟨t.val - 3, p0⟩ (by simp only; omega)
  rw [sums_next m c t (by omega) p2, e1, e2, e3]
  exact sums_eq m c ⟨t.val - 3, p0⟩ ⟨t.val - 2, p1⟩ ⟨t.val - 1, p2⟩ t (by simp only; omega) (by simp only; omega) (by simp only; omega)
    (by simp only; omega) y

/-- The kernel's result array is the reference's. -/
theorem final (c : Dev nD) : (dats m 0 c).arrAt 8 cfg0.N = ref m c := by
  refine (dats m 0 c).arrAt_eq_of_covers 8 _ (by decide +kernel) fun t hf y => ?_
  have h3 : t.val % 4 = 3 :=
    (by decide +kernel : ∀ t : Fin cfg0.N, (cfg0.win 8).flush t = true → t.val % 4 = 3) t hf
  blk_simp
  rw [after0_8, out_eq m c t h3]
  exact point m c t _ (sums_last m c t h3) y

end Cert.Kernel5Ideal.Whole

namespace Cert.Proof.MlpPlain

/-- The feed-forward call without the last normalisation and the reference end with the same result array, and both leave their arguments as they were. -/
theorem algebraic : Cert.algebraic_Kernel5Ideal_Reference5Ideal := by
  intro m ρ m' ρ' _ hag
  refine ⟨fun c => Cert.Kernel5Ideal.Whole.ref m c, ?_, ?_⟩
  · refine (θ_run Cert.Kernel5Ideal.defs _ _).mono (fun r h c => ?_) (Cert.Kernel5Ideal.Value.run (F := Ideal) m ρ)
    refine ⟨(h c).1.trans ?_, (h c).2⟩
    exact (Cert.Kernel5Ideal.Value.final8 m c).symm.trans (Cert.Kernel5Ideal.Whole.final m c)
  · refine (θ_run Cert.Reference5Ideal.defs _ _).mono (fun r h c => ⟨(h c).1.trans ?_, (h c).2⟩)
      (Cert.Reference5Ideal.Value.run (F := Ideal) m' ρ')
    obtain ⟨e0, e1, e2, e3, e4, e5⟩ := hag c
    rw [Cert.Reference5Ideal.Read.val_main_v31_eq, e0, e1, e2, e3, e4]

end Cert.Proof.MlpPlain

end
-- ==== Proof.S5Out.lean ====
/-
  The readout call of the recurrence (`s5_out`) is the reference's array.
-/
module

public import proofs.«01_k».proof.Defs
public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Whole

open Cert.Kernel6Ideal Cert.Kernel6Ideal.Gen

variable (m : (ℓ : Loc nD τ sig) → Buf (Elt Ideal) ℓ)

/-- The index maps of all the windows, in the point's number. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0] ∧ win0_4.index t = ![t.val / 4, 0, 0]
    ∧ win0_5.index t = ![t.val / 4, 0, 0] ∧ win0_6.index t = ![t.val / 4, t.val % 4, 0] :=
  (by decide +kernel : ∀ t : Fin grid0.N, _)

/-- The reference's result over the kernel's arguments. -/
abbrev ref (c : Dev nD) : FVec Ideal S4x2048x1024 .f32 :=
  Cert.Reference6Ideal.Read.val_main_v8 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

open Cert.Reference6Ideal.Read in
/-- The block computed at point `t`, read at `y`, is the reference read at the place `y` has in the array. -/
theorem point (c : Dev nD) (t : Fin cfg0.N) (y : S1x512x1024.Idx) :
    k0_pay1 (F := Ideal) (iblk m c 0 t) (iblk m c 3 t) (iblk m c 1 t) (iblk m c 4 t) (iblk m c 2 t) (iblk m c 5 t) y
      = ref m c (((cfg0.win 6).blk t).view.emb y) := by
  pointwise [k0_pay1, ref, val_main_v0, val_main_v1, val_main_v2, val_main_v3, val_main_v4, val_main_v5, val_main_v6,
    val_main_v7, val_main_v8]
  blk_point [iblk, V, idx t]

/-- The kernel's result array is the reference's. -/
theorem final (c : Dev nD) : (dats m 0 c).arrAt 6 cfg0.N = ref m c := by
  refine (dats m 0 c).arrAt_eq_of_covers 6 _ (by decide +kernel) fun t hf y => ?_
  blk_simp
  rw [after0_6]
  have e : out0_6 (F := Ideal) (iblk m c 0 t) (iblk m c 1 t) (iblk m c 2 t) (iblk m c 3 t) (iblk m c 4 t) (iblk m c 5 t)
      = k0_pay1 (F := Ideal) (iblk m c 0 t) (iblk m c 3 t) (iblk m c 1 t) (iblk m c 4 t) (iblk m c 2 t) (iblk m c 5 t) := by
    unfold out0_6
    frame_out
  rw [e]
  exact point m c t y

end Cert.Kernel6Ideal.Whole

namespace Cert.Proof.S5Out

/-- The readout call and the reference end with the same result array, and both leave their arguments as they were. -/
theorem algebraic : Cert.algebraic_Kernel6Ideal_Reference6Ideal := by
  intro m ρ m' ρ' _ hag
  refine ⟨fun c => Cert.Kernel6Ideal.Whole.ref m c, ?_, ?_⟩
  · refine (θ_run Cert.Kernel6Ideal.defs _ _).mono (fun r h c => ?_) (Cert.Kernel6Ideal.Gen.run_main m ρ)
    exact ⟨(Cert.Kernel6Ideal.Value.post6 m r h c).trans (Cert.Kernel6Ideal.Whole.final m c),
      Cert.Kernel6Ideal.Value.kept_main_arg0 m r h c, Cert.Kernel6Ideal.Value.kept_main_arg1 m r h c,
      Cert.Kernel6Ideal.Value.kept_main_arg2 m r h c, Cert.Kernel6Ideal.Value.kept_main_arg3 m r h c,
      Cert.Kernel6Ideal.Value.kept_main_arg4 m r h c, Cert.Kernel6Ideal.Value.kept_main_arg5 m r h c⟩
  · refine (θ_run Cert.Reference6Ideal.defs _ _).mono (fun r h c => ⟨(h c).1.trans ?_, (h c).2⟩)
      (Cert.Reference6Ideal.Value.run (F := Ideal) m' ρ')
    obtain ⟨e0, e1, e2, e3, e4, e5⟩ := hag c
    rw [Cert.Reference6Ideal.Read.val_main_v8_eq, e0, e1, e2, e3, e4, e5]

end Cert.Proof.S5Out

end
-- ==== Proof.AdaMod.lean ====
/-
  The modulation call (`ada_mod`) is the reference's array.
-/
module

public import proofs.«01_k».proof.Defs
public import proofs.«01_k».proof.Proof.Gen.Kernel7Ideal.Value
public import proofs.«01_k».proof.Proof.Gen.Reference7Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Whole

open Cert.Kernel7Ideal Cert.Kernel7Ideal.Gen

variable (m : (ℓ : Loc nD τ sig) → Buf (Elt Ideal) ℓ)

/-- The index maps of all the windows, in the point's number. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The reference's result over the kernel's arguments. -/
abbrev ref (c : Dev nD) : FVec Ideal S2x8x6144 .f32 :=
  Cert.Reference7Ideal.Read.val_main_v19 (F := Ideal) (m ((c : Thread nD τ).loc main_arg0)) (m ((c : Thread nD τ).loc main_arg1))
    (m ((c : Thread nD τ).loc main_arg2))

/-- The reshaped bias reads the bias at its first and last coordinates. -/
theorem reshape_bias (b : FVec Ideal S2x6144 .f32) (i : S2x1x6144.Idx) :
    shapeCast S2x1x6144 b shapeCasts_S2x6144_S2x1x6144 i = b (ix2 (i 0) (i 2) : S2x6144.Idx) := by
  have h1 : (i 1).val < 1 := (i 1).isLt
  refine shapeCast_apply b shapeCasts_S2x6144_S2x1x6144 i (ix2 (i 0) (i 2) : S2x6144.Idx) ?_
  rw [Shape.rowMajor_val_two, Shape.rowMajor_val_three]
  show (i 0).val * 6144 + (i 2).val = ((i 0).val * 1 + (i 1).val) * 6144 + (i 2).val
  omega

/-- The bias's window reads the bias. -/
theorem bias (c : Dev nD) (t : Fin cfg0.N) : iblk m c 2 t = fun x : S1x1x1536.Idx =>
    (m ((c : Thread nD τ).loc main_arg2) : FVec Ideal S2x6144 .f32)
      (ix2 ((((cfg0.win 2).blk t).view.emb x) 0) ((((cfg0.win 2).blk t).view.emb x) 2) : S2x6144.Idx) :=
  funext fun x => reshape_bias (m ((c : Thread nD τ).loc main_arg2)) (((cfg0.win 2).blk t).view.emb x)

open Cert.Reference7Ideal.Read in
/-- The block computed at point `t`, read at `y`, is the reference read at the place `y` has in the array. -/
theorem point (c : Dev nD) (t : Fin cfg0.N) (y : S1x8x1536.Idx) :
    k0_pay1 (F := Ideal) (iblk m c 0 t) (iblk m c 1 t) (iblk m c 2 t) y = ref m c (((cfg0.win 3).blk t).view.emb y) := by
  have e0 : iblk m c 0 t = (m ((c : Thread nD τ).loc main_arg0) : FVec Ideal S8x1024 .f32) := by
    funext x
    blk_point [iblk, V, idx t]
  rw [bias m c t, e0]
  have hy : (((cfg0.win 3).blk t).view.emb y 0).val = t.val / 4 := by blk_point [idx t]
  have hy' : (((View.whole main_v1).slice ((win0 3).rect t)).emb y 0).val = t.val / 4 := hy
  pointwise [k0_pay1, ref, val_main_call0_v0, val_main_call0_v1, val_main_call0_cst, val_main_call0_v2, val_main_call0_v3, val_main_call0_cst_0, val_main_call0_v4, val_main_call0_v5, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19]
  blk_point [iblk, V, Ideal.logistic, idx t]
  all_goals first
    | omega
    | (have h1 : (win0_3.blk t).view.emb y 1 = (y 1 : Fin 8) := Fin.ext (by blk_point [idx t])
       rw [h1])

/-- The kernel's result array is the reference's. -/
theorem final (c : Dev nD) : (dats m 0 c).arrAt 3 cfg0.N = ref m c := by
  refine (dats m 0 c).arrAt_eq_of_covers 3 _ (by decide +kernel) fun t hf y => ?_
  blk_simp
  rw [after0_3]
  have e : out0_3 (F := Ideal) (iblk m c 0 t) (iblk m c 1 t) (iblk m c 2 t)
      = k0_pay1 (F := Ideal) (iblk m c 0 t) (iblk m c 1 t) (iblk m c 2 t) := by
    unfold out0_3
    frame_out
  rw [e]
  exact point m c t y

end Cert.Kernel7Ideal.Whole

namespace Cert.Proof.AdaMod

/-- The modulation call and the reference end with the same result array, and both leave their arguments as they were. -/
theorem algebraic : Cert.algebraic_Kernel7Ideal_Reference7Ideal := by
  intro m ρ m' ρ' _ hag
  refine ⟨fun c => Cert.Kernel7Ideal.Whole.ref m c, ?_, ?_⟩
  · refine (θ_run Cert.Kernel7Ideal.defs _ _).mono (fun r h c => ?_) (Cert.Kernel7Ideal.Gen.run_main m ρ)
    exact ⟨(Cert.Kernel7Ideal.Value.post3 m r h c).trans (Cert.Kernel7Ideal.Whole.final m c),
      Cert.Kernel7Ideal.Value.kept_main_arg0 m r h c, Cert.Kernel7Ideal.Value.kept_main_arg1 m r h c,
      Cert.Kernel7Ideal.Value.kept_main_arg2 m r h c⟩
  · refine (θ_run Cert.Reference7Ideal.defs _ _).mono (fun r h c => ⟨(h c).1.trans ?_, (h c).2⟩)
      (Cert.Reference7Ideal.Value.run (F := Ideal) m' ρ')
    obtain ⟨e0, e1, e2⟩ := hag c
    rw [Cert.Reference7Ideal.Read.val_main_v19_eq, e0, e1, e2]

end Cert.Proof.AdaMod

end
-- ==== Proof.HyPre.lean ====
/-
  The call before the long convolution (`hy_pre`) is the reference's two arrays.
-/
module

public import proofs.«01_k».proof.Defs
public import proofs.«01_k».proof.Proof.Gen.Kernel8Ideal.Value
public import proofs.«01_k».proof.Proof.Gen.Reference8Ideal.Read
public import proofs.«01_k».proof.Proof.Merge
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Whole

open Cert.Kernel8Ideal Cert.Kernel8Ideal.Gen
open Cert.Kernel4Ideal.Whole (prev_sel next_sel zero_word)

variable (m : (ℓ : Loc nD τ sig) → Buf (Elt Ideal) ℓ)

/-- The index maps of the windows onto the projection, in the point's number. -/
theorem idx : ∀ t : Fin cfg0.N, win0_0.index t = ![t.val / 16, t.val % 16, 4]
    ∧ win0_1.index t = ![t.val / 16, t.val % 16 * 32 - 1, 4] ∧ win0_2.index t = ![t.val / 16, min (t.val % 16 * 32 + 32) 511, 4]
    ∧ win0_3.index t = ![t.val / 16, t.val % 16, 5]
    ∧ win0_4.index t = ![t.val / 16, t.val % 16 * 32 - 1, 5] ∧ win0_5.index t = ![t.val / 16, min (t.val % 16 * 32 + 32) 511, 5]
    ∧ win0_6.index t = ![t.val / 16, t.val % 16, 6]
    ∧ win0_7.index t = ![t.val / 16, t.val % 16 * 32 - 1, 6] ∧ win0_8.index t = ![t.val / 16, min (t.val % 16 * 32 + 32) 511, 6] :=
  (by decide +kernel : ∀ t : Fin grid0.N, _)

/-- The index maps of the taps, the bias and the two results, in the point's number. -/
theorem idx' : ∀ t : Fin cfg0.N, win0_9.index t = ![0, 0] ∧ win0_10.index t = ![0, 0]
    ∧ win0_11.index t = ![t.val / 16, t.val % 16, 0, 0] ∧ win0_12.index t = ![t.val / 16, t.val % 16, 0] :=
  (by decide +kernel : ∀ t : Fin grid0.N, _)

/-- The batch of point `t`. -/
abbrev bat (t : Fin cfg0.N) : Fin 4 := ⟨t.val / 16, by have h : t.val < 64 := t.isLt; omega⟩

/-- The position in the sequence of row `r` of point `t`. -/
abbrev pos (t : Fin cfg0.N) (r : Fin 256) : Fin 4096 := ⟨t.val % 16 * 256 + r.val, by have h : r.val < 256 := r.isLt; omega⟩

/-- The reference's first result over the kernel's arguments. -/
abbrev refProd (c : Dev nD) : FVec Ideal S4x16x512x256 .f32 :=
  Cert.Reference8Ideal.Read.val_main_v30 (F := Ideal) (m ((c : Thread nD τ).loc main_arg0)) (m ((c : Thread nD τ).loc main_arg1)) (m ((c : Thread nD τ).loc main_arg2))

/-- The reference's second result over the kernel's arguments. -/
abbrev refGate (c : Dev nD) : FVec Ideal S4x4096x512 .f32 :=
  Cert.Reference8Ideal.Read.val_main_v27 (F := Ideal) (m ((c : Thread nD τ).loc main_arg0)) (m ((c : Thread nD τ).loc main_arg1)) (m ((c : Thread nD τ).loc main_arg2))

/-- The last row of an eight-row block. -/
abbrev lastRow (b : FVec Ideal S1x8x512 .f32) : FVec Ideal S1x1x512 .f32 := fun x => b (ix3 0 7 (x 2) : S1x8x512.Idx)

/-- The first row of an eight-row block. -/
abbrev firstRow (b : FVec Ideal S1x8x512 .f32) : FVec Ideal S1x1x512 .f32 := fun x => b (ix3 0 0 (x 2) : S1x8x512.Idx)

/-- The test for a sequence's first point. -/
theorem first_bit : ∀ t : Fin cfg0.N, Scalar.cmpi .eq (BitVec.ofNat 32 (grid0.coords t 1).val) 0#32 = if t.val % 16 = 0 then 1#1 else 0#1 :=
  (by decide +kernel : ∀ t : Fin grid0.N, _)

/-- The test for a sequence's last point. -/
theorem last_bit : ∀ t : Fin cfg0.N, Scalar.cmpi .eq (BitVec.ofNat 32 (grid0.coords t 1).val) 15#32 = if t.val % 16 = 15 then 1#1 else 0#1 :=
  (by decide +kernel : ∀ t : Fin grid0.N, _)

/-- Every point reads the three taps. -/
theorem taps (c : Dev nD) (t : Fin cfg0.N) : iblk m c 9 t
    = fun x : S3x1536.Idx => (m ((c : Thread nD τ).loc main_arg1) : FVec Ideal S3x1536 .f32) x := by
  funext x
  blk_point [iblk, V, idx' t]

/-- The bias with a leading axis reads the bias at its last coordinate. -/
theorem bias_row (b : FVec Ideal S1536 .f32) (i : S1x1536.Idx) :
    shapeCast S1x1536 b shapeCasts_S1536_S1x1536 i = b (ix1 (i 1) : S1536.Idx) := by
  have h0 : (i 0).val < 1 := (i 0).isLt
  refine shapeCast_apply b shapeCasts_S1536_S1x1536 i (ix1 (i 1) : S1536.Idx) ?_
  rw [Shape.rowMajor_val_one, Shape.rowMajor_val_two]
  show (i 1).val = (i 0).val * 1536 + (i 1).val
  omega

/-- Every point reads the whole bias. -/
theorem bias (c : Dev nD) (t : Fin cfg0.N) : iblk m c 10 t
    = fun x : S1x1536.Idx => (m ((c : Thread nD τ).loc main_arg2) : FVec Ideal S1536 .f32) (ix1 (x 1) : S1536.Idx) := by
  funext x
  refine (bias_row (m ((c : Thread nD τ).loc main_arg2)) (((cfg0.win 10).blk t).view.emb x)).trans ?_
  blk_point [idx' t]

/-- One column of the projection at a position counted from zero; past the end zero. -/
def col (p : FVec Ideal S4x4096x6656 .f32) (b : Fin 4) (x : Fin 6656) (n : ℕ) : EReal :=
  if h : n < 4096 then p (ix3 b ⟨n, h⟩ x) else 0

/-- A column one position earlier or later, zero outside the sequence, as the reference reads its padding. -/
theorem padded (p : FVec Ideal S4x4096x6656 .f32) (b : ℕ) (hb : b < 4) (x : Fin 6656) (q : ℕ) (hq : q < 1536) (n : ℕ) :
    (if 1 ≤ n ∧ n - 1 < 4096 then col p ⟨b, hb⟩ x (n - 1) else 0)
      = if h : b < 4 ∧ (1 ≤ n ∧ n - 1 < 4096) ∧ q < 1536 then p (ix3 ⟨b, h.1⟩ ⟨n - 1, h.2.1.2⟩ x)
        else (FloatOps.sitofp .f32 0#32 : Ideal .f32) := by
  by_cases h : 1 ≤ n ∧ n - 1 < 4096
  · rw [if_pos h, dif_pos ⟨hb, h, hq⟩]
    unfold col
    rw [dif_pos h.2]
  · rw [if_neg h, dif_neg fun w => h w.2.1]
    exact zero_word.symm

/-- A column at a position inside the sequence, as the reference reads its padding. -/
theorem padded_cur (p : FVec Ideal S4x4096x6656 .f32) (b : ℕ) (hb : b < 4) (x : Fin 6656) (q : ℕ) (hq : q < 1536) (n : ℕ) (hn : n < 4096) :
    col p ⟨b, hb⟩ x n
      = if h : b < 4 ∧ n < 4096 ∧ q < 1536 then p (ix3 ⟨b, h.1⟩ ⟨n, h.2.1⟩ x) else (FloatOps.sitofp .f32 0#32 : Ideal .f32) := by
  unfold col
  rw [dif_pos hn, dif_pos ⟨hb, hn, hq⟩]

/-- Row `r` of point `t`'s block of the first part. -/
theorem first_cur (c : Dev nD) (t : Fin cfg0.N) (r : Fin 256) (x : Fin 512) : iblk m c 0 t (ix3 0 r x : S1x256x512.Idx)
      = col (m ((c : Thread nD τ).loc main_arg0)) (bat t) ⟨2048 + x.val, by omega⟩ (t.val % 16 * 256 + r.val) := by
  unfold col
  rw [dif_pos (by omega)]
  blk_point [iblk, V, idx t]

/-- The rows of the first part one earlier, as the kernel selects them, hold the column one position earlier. -/
theorem first_prev (c : Dev nD) (t : Fin cfg0.N) (r : Fin 256) (x : Fin 512) (hr : (r.val + 256 - 1) % 256 < 256) :
    Scalar.select (IntOp.cmpi CmpIPredicate.eq (BitVec.ofNat 32 r.val) 0#32)
      (Scalar.select (if t.val % 16 = 0 then 1#1 else 0#1) (0 : EReal) (iblk m c 1 t (ix3 0 7 x : S1x8x512.Idx)))
      (iblk m c 0 t (ix3 0 ⟨(r.val + 256 - 1) % 256, hr⟩ x : S1x256x512.Idx))
    = if 1 ≤ t.val % 16 * 256 + r.val ∧ t.val % 16 * 256 + r.val - 1 < 4096 then
        col (m ((c : Thread nD τ).loc main_arg0)) (bat t) ⟨2048 + x.val, by omega⟩ (t.val % 16 * 256 + r.val - 1) else 0 := by
  have e : iblk m c 1 t (ix3 0 7 x : S1x8x512.Idx)
      = col (m ((c : Thread nD τ).loc main_arg0)) (bat t) ⟨2048 + x.val, by omega⟩ ((t.val % 16 * 32 - 1) * 8 + 7) := by
    unfold col
    rw [dif_pos (by omega)]
    blk_point [iblk, V, idx t]
  rw [e, first_cur m c t ⟨(r.val + 256 - 1) % 256, hr⟩ x]
  exact prev_sel (t.val % 16) r.val (by omega) r.isLt _

/-- The rows of the first part one later, as the kernel selects them, hold the column one position later. -/
theorem first_next (c : Dev nD) (t : Fin cfg0.N) (r : Fin 256) (x : Fin 512) (hr : (r.val + 256 - 255) % 256 < 256) :
    Scalar.select (IntOp.cmpi CmpIPredicate.eq (BitVec.ofNat 32 r.val) 255#32)
      (Scalar.select (if t.val % 16 = 15 then 1#1 else 0#1) (0 : EReal) (iblk m c 2 t (ix3 0 0 x : S1x8x512.Idx)))
      (iblk m c 0 t (ix3 0 ⟨(r.val + 256 - 255) % 256, hr⟩ x : S1x256x512.Idx))
    = if 1 ≤ 2 + (t.val % 16 * 256 + r.val) ∧ 2 + (t.val % 16 * 256 + r.val) - 1 < 4096 then
        col (m ((c : Thread nD τ).loc main_arg0)) (bat t) ⟨2048 + x.val, by omega⟩ (2 + (t.val % 16 * 256 + r.val) - 1) else 0 := by
  have e : iblk m c 2 t (ix3 0 0 x : S1x8x512.Idx)
      = col (m ((c : Thread nD τ).loc main_arg0)) (bat t) ⟨2048 + x.val, by omega⟩ (min (t.val % 16 * 32 + 32) 511 * 8) := by
    unfold col
    rw [dif_pos (by omega)]
    blk_point [iblk, V, idx t]
  rw [e, first_cur m c t ⟨(r.val + 256 - 255) % 256, hr⟩ x]
  exact next_sel (t.val % 16) r.val (by omega) r.isLt _

/-- Row `r` of point `t`'s block of the second part. -/
theorem second_cur (c : Dev nD) (t : Fin cfg0.N) (r : Fin 256) (x : Fin 512) : iblk m c 3 t (ix3 0 r x : S1x256x512.Idx)
      = col (m ((c : Thread nD τ).loc main_arg0)) (bat t) ⟨2048 + (512 + x.val), by omega⟩ (t.val % 16 * 256 + r.val) := by
  unfold col
  rw [dif_pos (by omega)]
  blk_point [iblk, V, idx t]

/-- The rows of the second part one earlier, as the kernel selects them, hold the column one position earlier. -/
theorem second_prev (c : Dev nD) (t : Fin cfg0.N) (r : Fin 256) (x : Fin 512) (hr : (r.val + 256 - 1) % 256 < 256) :
    Scalar.select (IntOp.cmpi CmpIPredicate.eq (BitVec.ofNat 32 r.val) 0#32)
      (Scalar.select (if t.val % 16 = 0 then 1#1 else 0#1) (0 : EReal) (iblk m c 4 t (ix3 0 7 x : S1x8x512.Idx)))
      (iblk m c 3 t (ix3 0 ⟨(r.val + 256 - 1) % 256, hr⟩ x : S1x256x512.Idx))
    = if 1 ≤ t.val % 16 * 256 + r.val ∧ t.val % 16 * 256 + r.val - 1 < 4096 then
        col (m ((c : Thread nD τ).loc main_arg0)) (bat t) ⟨2048 + (512 + x.val), by omega⟩ (t.val % 16 * 256 + r.val - 1) else 0 := by
  have e : iblk m c 4 t (ix3 0 7 x : S1x8x512.Idx)
      = col (m ((c : Thread nD τ).loc main_arg0)) (bat t) ⟨2048 + (512 + x.val), by omega⟩ ((t.val % 16 * 32 - 1) * 8 + 7) := by
    unfold col
    rw [dif_pos (by omega)]
    blk_point [iblk, V, idx t]
  rw [e, second_cur m c t ⟨(r.val + 256 - 1) % 256, hr⟩ x]
  exact prev_sel (t.val % 16) r.val (by omega) r.isLt _

/-- The rows of the second part one later, as the kernel selects them, hold the column one position later. -/
theorem second_next (c : Dev nD) (t : Fin cfg0.N) (r : Fin 256) (x : Fin 512) (hr : (r.val + 256 - 255) % 256 < 256) :
    Scalar.select (IntOp.cmpi CmpIPredicate.eq (BitVec.ofNat 32 r.val) 255#32)
      (Scalar.select (if t.val % 16 = 15 then 1#1 else 0#1) (0 : EReal) (iblk m c 5 t (ix3 0 0 x : S1x8x512.Idx)))
      (iblk m c 3 t (ix3 0 ⟨(r.val + 256 - 255) % 256, hr⟩ x : S1x256x512.Idx))
    = if 1 ≤ 2 + (t.val % 16 * 256 + r.val) ∧ 2 + (t.val % 16 * 256 + r.val) - 1 < 4096 then
        col (m ((c : Thread nD τ).loc main_arg0)) (bat t) ⟨2048 + (512 + x.val), by omega⟩ (2 + (t.val % 16 * 256 + r.val) - 1) else 0 := by
  have e : iblk m c 5 t (ix3 0 0 x : S1x8x512.Idx)
      = col (m ((c : Thread nD τ).loc main_arg0)) (bat t) ⟨2048 + (512 + x.val), by omega⟩ (min (t.val % 16 * 32 + 32) 511 * 8) := by
    unfold col
    rw [dif_pos (by omega)]
    blk_point [iblk, V, idx t]
  rw [e, second_cur m c t ⟨(r.val + 256 - 255) % 256, hr⟩ x]
  exact next_sel (t.val % 16) r.val (by omega) r.isLt _

/-- Row `r` of point `t`'s block of the third part. -/
theorem third_cur (c : Dev nD) (t : Fin cfg0.N) (r : Fin 256) (x : Fin 512) : iblk m c 6 t (ix3 0 r x : S1x256x512.Idx)
      = col (m ((c : Thread nD τ).loc main_arg0)) (bat t) ⟨2048 + (1024 + x.val), by omega⟩ (t.val % 16 * 256 + r.val) := by
  unfold col
  rw [dif_pos (by omega)]
  blk_point [iblk, V, idx t]

/-- The rows of the third part one earlier, as the kernel selects them, hold the column one position earlier. -/
theorem third_prev (c : Dev nD) (t : Fin cfg0.N) (r : Fin 256) (x : Fin 512) (hr : (r.val + 256 - 1) % 256 < 256) :
    Scalar.select (IntOp.cmpi CmpIPredicate.eq (BitVec.ofNat 32 r.val) 0#32)
      (Scalar.select (if t.val % 16 = 0 then 1#1 else 0#1) (0 : EReal) (iblk m c 7 t (ix3 0 7 x : S1x8x512.Idx)))
      (iblk m c 6 t (ix3 0 ⟨(r.val + 256 - 1) % 256, hr⟩ x : S1x256x512.Idx))
    = if 1 ≤ t.val % 16 * 256 + r.val ∧ t.val % 16 * 256 + r.val - 1 < 4096 then
        col (m ((c : Thread nD τ).loc main_arg0)) (bat t) ⟨2048 + (1024 + x.val), by omega⟩ (t.val % 16 * 256 + r.val - 1) else 0 := by
  have e : iblk m c 7 t (ix3 0 7 x : S1x8x512.Idx)
      = col (m ((c : Thread nD τ).loc main_arg0)) (bat t) ⟨2048 + (1024 + x.val), by omega⟩ ((t.val % 16 * 32 - 1) * 8 + 7) := by
    unfold col
    rw [dif_pos (by omega)]
    blk_point [iblk, V, idx t]
  rw [e, third_cur m c t ⟨(r.val + 256 - 1) % 256, hr⟩ x]
  exact prev_sel (t.val % 16) r.val (by omega) r.isLt _

/-- The rows of the third part one later, as the kernel selects them, hold the column one position later. -/
theorem third_next (c : Dev nD) (t : Fin cfg0.N) (r : Fin 256) (x : Fin 512) (hr : (r.val + 256 - 255) % 256 < 256) :
    Scalar.select (IntOp.cmpi CmpIPredicate.eq (BitVec.ofNat 32 r.val) 255#32)
      (Scalar.select (if t.val % 16 = 15 then 1#1 else 0#1) (0 : EReal) (iblk m c 8 t (ix3 0 0 x : S1x8x512.Idx)))
      (iblk m c 6 t (ix3 0 ⟨(r.val + 256 - 255) % 256, hr⟩ x : S1x256x512.Idx))
    = if 1 ≤ 2 + (t.val % 16 * 256 + r.val) ∧ 2 + (t.val % 16 * 256 + r.val) - 1 < 4096 then
        col (m ((c : Thread nD τ).loc main_arg0)) (bat t) ⟨2048 + (1024 + x.val), by omega⟩ (2 + (t.val % 16 * 256 + r.val) - 1) else 0 := by
  have e : iblk m c 8 t (ix3 0 0 x : S1x8x512.Idx)
      = col (m ((c : Thread nD τ).loc main_arg0)) (bat t) ⟨2048 + (1024 + x.val), by omega⟩ (min (t.val % 16 * 32 + 32) 511 * 8) := by
    unfold col
    rw [dif_pos (by omega)]
    blk_point [iblk, V, idx t]
  rw [e, third_cur m c t ⟨(r.val + 256 - 255) % 256, hr⟩ x]
  exact next_sel (t.val % 16) r.val (by omega) r.isLt _

/-- The place in the second result of an element of point `t`'s block. -/
theorem emb12 (t : Fin cfg0.N) (y : S1x256x512.Idx) : ((cfg0.win 12).blk t).view.emb y = (ix3 (bat t) (pos t (y 1)) (y 2) : S4x4096x512.Idx) := by
  blk_ext [idx' t]

/-- The place in the first result of an element of point `t`'s block. -/
theorem emb11 (t : Fin cfg0.N) (y : S1x1x512x256.Idx) : ((cfg0.win 11).blk t).view.emb y
    = (ix4 (bat t) ⟨t.val % 16, by omega⟩ (y 2) (y 3) : S4x16x512x256.Idx) := by
  blk_ext [idx' t]

/-- The only leading coordinate of a block is zero. -/
theorem row_ix (y : S1x256x512.Idx) : y = (ix3 0 (y 1) (y 2) : S1x256x512.Idx) := by
  funext a
  match a with
  | ⟨0, _⟩ => exact Fin.ext (by have h : (y 0).val < 1 := (y 0).isLt; show (y 0).val = 0; omega)
  | ⟨1, _⟩ => rfl
  | ⟨2, _⟩ => rfl

/-- What point `t` stores in the second result. -/
theorem stored12 (c : Dev nD) (t : Fin cfg0.N) : out0_12 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
    = k0_pay1 (F := Ideal) (k0_pay10 (if t.val % 16 = 0 then 1#1 else 0#1) (if t.val % 16 = 15 then 1#1 else 0#1) (iblk m c 9 t) (iblk m c 6 t) (lastRow (iblk m c 7 t)) (firstRow (iblk m c 8 t)))
        (k0_pay11 (k0_pay2 (iblk m c 10 t))) := by
  unfold_out out0_12
  rw [first_bit t, last_bit t]
  frame_out
  congr 2 <;> (funext x; pointwise [lastRow, firstRow])

open Cert.Reference8Ideal.Read in
/-- The block of the second result stored at point `t` is the reference's. -/
theorem gate_eq (c : Dev nD) (t : Fin cfg0.N) (y : S1x256x512.Idx) :
    k0_pay1 (F := Ideal) (k0_pay10 (if t.val % 16 = 0 then 1#1 else 0#1) (if t.val % 16 = 15 then 1#1 else 0#1) (iblk m c 9 t) (iblk m c 6 t) (lastRow (iblk m c 7 t)) (firstRow (iblk m c 8 t)))
        (k0_pay11 (k0_pay2 (iblk m c 10 t))) y = refGate m c (ix3 (bat t) (pos t (y 1)) (y 2)) := by
  have hy : (y 1).val < 256 := (y 1).isLt
  have hx : (y 2).val < 512 := (y 2).isLt
  have ht : t.val < 64 := t.isLt
  rw [taps, bias]
  pointwise [k0_pay1, k0_pay10, k0_pay11, k0_pay2, refGate, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_c, val_main_call0_v0]
  exact congrArg₂ (· + ·) (congrArg₂ (· + ·) (congrArg₂ (· + ·)
      (congrArg₂ (· * ·) rfl ((third_prev m c t (y 1) ((y 2)) _).trans
        (padded (m ((c : Thread nD τ).loc main_arg0)) (t.val / 16) (by omega) ⟨2048 + (1024 + (y 2).val), by omega⟩ (1024 + (y 2).val) (by omega) (t.val % 16 * 256 + (y 1).val))))
      (congrArg₂ (· * ·) rfl (((congrArg (iblk m c 6 t) (row_ix y)).trans (third_cur m c t (y 1) (y 2))).trans
        (padded_cur (m ((c : Thread nD τ).loc main_arg0)) (t.val / 16) (by omega) ⟨2048 + (1024 + (y 2).val), by omega⟩ (1024 + (y 2).val) (by omega) (t.val % 16 * 256 + (y 1).val) (by omega)))))
      (congrArg₂ (· * ·) rfl ((third_next m c t (y 1) ((y 2)) _).trans
        (padded (m ((c : Thread nD τ).loc main_arg0)) (t.val / 16) (by omega) ⟨2048 + (1024 + (y 2).val), by omega⟩ (1024 + (y 2).val) (by omega) (2 + (t.val % 16 * 256 + (y 1).val)))))) rfl

/-- What point `t` stores in the first result. -/
theorem stored11 (c : Dev nD) (t : Fin cfg0.N) : out0_11 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
    = k0_pay9 (F := Ideal) (k0_pay8 (if t.val % 16 = 0 then 1#1 else 0#1) (if t.val % 16 = 15 then 1#1 else 0#1) (iblk m c 9 t) (k0_pay2 (iblk m c 10 t))
        (k0_pay5 (grid0.coords t) (iblk m c 0 t) (firstRow (iblk m c 2 t)))
        (k0_pay6 (grid0.coords t) (iblk m c 9 t) (iblk m c 0 t) (lastRow (iblk m c 1 t))) (k0_pay7 (iblk m c 9 t))
        (iblk m c 3 t) (lastRow (iblk m c 4 t)) (firstRow (iblk m c 5 t))) := by
  unfold_out out0_11
  rw [first_bit t, last_bit t]
  frame_out
  congr 3 <;> (funext x; pointwise [lastRow, firstRow])

open Cert.Reference8Ideal.Read in
/-- The block of the first result stored at point `t` is the reference's. -/
theorem prod_eq (c : Dev nD) (t : Fin cfg0.N) (y : S1x1x512x256.Idx) :
    k0_pay9 (F := Ideal) (k0_pay8 (if t.val % 16 = 0 then 1#1 else 0#1) (if t.val % 16 = 15 then 1#1 else 0#1) (iblk m c 9 t) (k0_pay2 (iblk m c 10 t))
        (k0_pay5 (grid0.coords t) (iblk m c 0 t) (firstRow (iblk m c 2 t)))
        (k0_pay6 (grid0.coords t) (iblk m c 9 t) (iblk m c 0 t) (lastRow (iblk m c 1 t))) (k0_pay7 (iblk m c 9 t))
        (iblk m c 3 t) (lastRow (iblk m c 4 t)) (firstRow (iblk m c 5 t))) y = refProd m c (ix4 (bat t) ⟨t.val % 16, by omega⟩ (y 2) (y 3)) := by
  have hy : (y 3).val < 256 := (y 3).isLt
  have hx : (y 2).val < 512 := (y 2).isLt
  have ht : t.val < 64 := t.isLt
  unfold k0_pay5 k0_pay6
  dsimp only
  rw [first_bit t, last_bit t, taps, bias]
  pointwise [k0_pay9, k0_pay8, k0_pay7, k0_pay4, k0_pay3, k0_pay2, refProd, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_c, val_main_call0_v0]
  refine congrArg₂ (· * ·) ?_ ?_
  · exact congrArg₂ (· + ·) (congrArg₂ (· + ·) (congrArg₂ (· + ·)
        (congrArg₂ (· * ·) rfl ((second_prev m c t (y 3) ((y 2)) _).trans
          (padded (m ((c : Thread nD τ).loc main_arg0)) (t.val / 16) (by omega) ⟨2048 + (512 + (y 2).val), by omega⟩ (512 + (y 2).val) (by omega) (t.val % 16 * 256 + (y 3).val))))
        (congrArg₂ (· * ·) rfl ((second_cur m c t (y 3) (y 2)).trans
          (padded_cur (m ((c : Thread nD τ).loc main_arg0)) (t.val / 16) (by omega) ⟨2048 + (512 + (y 2).val), by omega⟩ (512 + (y 2).val) (by omega) (t.val % 16 * 256 + (y 3).val) (by omega)))))
        (congrArg₂ (· * ·) rfl ((second_next m c t (y 3) ((y 2)) _).trans
          (padded (m ((c : Thread nD τ).loc main_arg0)) (t.val / 16) (by omega) ⟨2048 + (512 + (y 2).val), by omega⟩ (512 + (y 2).val) (by omega) (2 + (t.val % 16 * 256 + (y 3).val)))))) rfl
  · exact congrArg₂ (· + ·) (congrArg₂ (· + ·) (congrArg₂ (· + ·)
        (congrArg₂ (· * ·) rfl ((first_prev m c t (y 3) ((y 2)) _).trans
          (padded (m ((c : Thread nD τ).loc main_arg0)) (t.val / 16) (by omega) ⟨2048 + (y 2).val, by omega⟩ ((y 2)).val (by omega) (t.val % 16 * 256 + (y 3).val))))
        (congrArg₂ (· * ·) rfl ((first_cur m c t (y 3) (y 2)).trans
          (padded_cur (m ((c : Thread nD τ).loc main_arg0)) (t.val / 16) (by omega) ⟨2048 + (y 2).val, by omega⟩ ((y 2)).val (by omega) (t.val % 16 * 256 + (y 3).val) (by omega)))))
        (congrArg₂ (· * ·) rfl ((first_next m c t (y 3) ((y 2)) _).trans
          (padded (m ((c : Thread nD τ).loc main_arg0)) (t.val / 16) (by omega) ⟨2048 + (y 2).val, by omega⟩ ((y 2)).val (by omega) (2 + (t.val % 16 * 256 + (y 3).val)))))) rfl

/-- The kernel's second result array is the reference's. -/
theorem final12 (c : Dev nD) : (dats m 0 c).arrAt 12 cfg0.N = refGate m c := by
  refine (dats m 0 c).arrAt_eq_of_covers 12 _ (by decide +kernel) fun t hf y => ?_
  blk_simp
  rw [after0_12, emb12, stored12]
  exact gate_eq m c t y

/-- The kernel's first result array is the reference's. -/
theorem final11 (c : Dev nD) : (dats m 0 c).arrAt 11 cfg0.N = refProd m c := by
  refine (dats m 0 c).arrAt_eq_of_covers 11 _ (by decide +kernel) fun t hf y => ?_
  blk_simp
  rw [after0_11, emb11, stored11]
  exact prod_eq m c t y

end Cert.Kernel8Ideal.Whole

namespace Cert.Proof.HyPre

/-- The call and the reference end with the same two result arrays, and both leave their arguments as they were. -/
theorem algebraic : Cert.algebraic_Kernel8Ideal_Reference8Ideal := by
  intro m ρ m' ρ' _ hag
  refine ⟨fun c => Cert.Kernel8Ideal.Whole.refProd m c, fun c => Cert.Kernel8Ideal.Whole.refGate m c, ?_, ?_⟩
  · refine (θ_run Cert.Kernel8Ideal.defs _ _).mono (fun r h c => ?_) (Cert.Kernel8Ideal.Gen.run_main m ρ)
    exact ⟨(Cert.Kernel8Ideal.Value.post11 m r h c).trans (Cert.Kernel8Ideal.Whole.final11 m c),
      (Cert.Kernel8Ideal.Value.post12 m r h c).trans (Cert.Kernel8Ideal.Whole.final12 m c),
      Cert.Kernel8Ideal.Value.kept_main_arg0 m r h c, Cert.Kernel8Ideal.Value.kept_main_arg1 m r h c,
      Cert.Kernel8Ideal.Value.kept_main_arg2 m r h c⟩
  · refine (θ_run Cert.Reference8Ideal.defs _ _).mono (fun r h c => ⟨(h c).1.trans ?_, (h c).2.1.trans ?_, (h c).2.2⟩)
      (Cert.Reference8Ideal.Value.run (F := Ideal) m' ρ')
    · obtain ⟨e0, e1, e2⟩ := hag c
      rw [Cert.Reference8Ideal.Read.val_main_v30_eq, e0, e1, e2]
    · obtain ⟨e0, e1, e2⟩ := hag c
      rw [Cert.Reference8Ideal.Read.val_main_v27_eq, e0, e1, e2]

end Cert.Proof.HyPre

end
-- ==== Proof.HyOps.lean ====
/-
  The call that builds the Hyena filters (`hy_filter_taps`): what the host hands to it.
-/
module

public import proofs.«01_k».proof.Defs
public import proofs.«01_k».proof.Proof.Gen.Kernel9Ideal.Frame.Runs
public import proofs.«01_k».proof.Proof.Gen.Reference9Ideal.Read

@[expose] public section

set_option maxRecDepth 16384

noncomputable section

open Idealize.ShloMosaic Idealize.ShloMosaic.TcCoe Idealize.SL.Sem

namespace Cert.Kernel9Ideal.Whole

open Cert.Kernel9Ideal Cert.Kernel9Ideal.Gen

variable (m : (ℓ : Loc nD τ sig) → Buf (Elt Ideal) ℓ)

set_option maxHeartbeats 4000000 in
open Cert.Reference9Ideal.Read in
/-- The positional features of the kernel: the reference's three pieces and seven columns of zeros. -/
theorem hostZ (c : Dev nD) : V m c main_v20 = concatenate S4096x40 1 [⟨S4096x1, val_main_v1 (F := Ideal)⟩, ⟨S4096x16, val_main_v13 (F := Ideal)⟩,
    ⟨S4096x16, val_main_v18 (F := Ideal)⟩, ⟨S4096x7, broadcastInDim S4096x7 ![] bcast_S_S4096x7 (constant (F := Ideal) S_ .f32 0x00000000#32)⟩]
      concatenates_S4096x1_S4096x16_S4096x16_S4096x7_S4096x40_d1 := rfl

set_option maxHeartbeats 2000000 in
/-- The decay rates of the kernel are the reference's. -/
theorem hostD (c : Dev nD) : V m c main_v25 = Cert.Reference9Ideal.Read.val_main_v48 (F := Ideal) := rfl

/-- The first weights of the kernel: the argument and seven rows of zeros. -/
theorem hostW (c : Dev nD) : V m c main_v22 = concatenate S40x64 0 [⟨S33x64, m ((c : Thread nD τ).loc main_arg0)⟩,
    ⟨S7x64, broadcastInDim S7x64 ![] bcast_S_S7x64 (constant (F := Ideal) S_ .f32 0x00000000#32)⟩] concatenates_S33x64_S7x64_S40x64_d0 := rfl

/-- The kernel's first bias: the argument with a leading axis. -/
theorem hostB1 (c : Dev nD) : V m c main_v26 = shapeCast S1x64 (m ((c : Thread nD τ).loc main_arg1)) shapeCasts_S64_S1x64 := rfl

/-- The kernel's second bias: the argument with a leading axis. -/
theorem hostB2 (c : Dev nD) : V m c main_v27 = shapeCast S1x64 (m ((c : Thread nD τ).loc main_arg3)) shapeCasts_S64_S1x64 := rfl

/-- The kernel's third bias: the argument with a leading axis. -/
theorem hostB3 (c : Dev nD) : V m c main_v28 = shapeCast S1x64 (m ((c : Thread nD τ).loc main_arg5)) shapeCasts_S64_S1x64 := rfl

/-- The kernel's frequencies: the argument with a leading axis. -/
theorem hostF (c : Dev nD) : V m c main_v29 = shapeCast S1x64 (m ((c : Thread nD τ).loc main_arg6)) shapeCasts_S64_S1x64 := rfl

end Cert.Kernel9Ideal.Whole

end
-- ==== Proof.HyRows.lean ====
/-
  The call that builds the Hyena filters (`hy_filter_taps`): one block's rows of the filters.
-/
module

public import proofs.«01_k».proof.Defs
public import proofs.«01_k».proof.Proof.Gen.Kernel9Ideal.Skeleton
public import proofs.«01_k».proof.Proof.Gen.Reference9Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel9Ideal.Whole

open Cert.Kernel9Ideal Cert.Kernel9Ideal.Gen

/-- The position in the sequence of row `r` of block `i`. -/
abbrev pos (i : Fin 16) (r : Fin 256) : Fin 4096 := ⟨i.val * 256 + r.val, by omega⟩

open Cert.Reference9Ideal.Read in
/-- The kernel's positional features. -/
def feats : FVec Ideal S4096x40 .f32 :=
  concatenate S4096x40 1 [⟨S4096x1, val_main_v1 (F := Ideal)⟩, ⟨S4096x16, val_main_v13 (F := Ideal)⟩,
    ⟨S4096x16, val_main_v18 (F := Ideal)⟩, ⟨S4096x7, broadcastInDim S4096x7 ![] bcast_S_S4096x7 (constant (F := Ideal) S_ .f32 0x00000000#32)⟩]
      concatenates_S4096x1_S4096x16_S4096x16_S4096x7_S4096x40_d1

/-- The kernel's first weights. -/
def wide (w : FVec Ideal S33x64 .f32) : FVec Ideal S40x64 .f32 :=
  concatenate S40x64 0 [⟨S33x64, w⟩, ⟨S7x64, broadcastInDim S7x64 ![] bcast_S_S7x64 (constant (F := Ideal) S_ .f32 0x00000000#32)⟩] concatenates_S33x64_S7x64_S40x64_d0

/-- Block `i`'s rows of the features. -/
abbrev zrows (i : Fin 16) : FVec Ideal S256x40 .f32 := fun x => feats (ix2 (pos i (x 0)) (x 1) : S4096x40.Idx)

/-- A vector of sixty-four as one row. -/
abbrev row (b : FVec Ideal S64 .f32) : FVec Ideal S1x64 .f32 := fun x => b (ix1 (x 1) : S64.Idx)

open Cert.Reference9Ideal.Read in
/-- The first thirty-three columns of the features are the reference's. -/
theorem feats_lo (p : Fin 4096) (k : Fin 33) (h : k.val < 40) : feats (ix2 p ⟨k.val, h⟩ : S4096x40.Idx) = val_main_v19 (F := Ideal) (ix2 p k) := by
  pointwise [feats, val_main_v19]
  split
  · rfl
  · split
    · rfl
    · exact dif_pos (by omega)

/-- The last seven columns of the features are zero. -/
theorem feats_hi (p : Fin 4096) (k : Fin 7) (h : 33 + k.val < 40) : feats (ix2 p ⟨33 + k.val, h⟩ : S4096x40.Idx) = 0 := by
  pointwise [feats]
  rw [dif_neg (by omega), dif_neg (by omega), dif_neg (by omega)]

/-- The first thirty-three rows of the first weights are the argument's. -/
theorem wide_lo (w : FVec Ideal S33x64 .f32) (k : Fin 33) (q : Fin 64) (h : k.val < 40) : wide w (ix2 ⟨k.val, h⟩ q : S40x64.Idx) = w (ix2 k q) := by
  pointwise [wide]

open Cert.Reference9Ideal.Read in
/-- The product over forty columns, seven of them zero, is the reference's over thirty-three. -/
theorem first_sum (i : Fin 16) (w : FVec Ideal S33x64 .f32) :
    matmul dot_S256x40_S40x64_S256x64_1_0_0_1_n_n (some .fp32) (k0_pay1 (zrows i)) (wide w) (constant (F := Ideal) S256x64 .f32 0x00000000#32)
      = fun x => val_main_v20 (F := Ideal) w (ix2 (pos i (x 0)) (x 1)) := by
  funext x
  pointwise [k0_pay1, zrows, val_main_v20]
  refine (Fin.sum_univ_add (a := 33) (b := 7) _).trans ?_
  rw [Finset.sum_eq_zero (s := (Finset.univ : Finset (Fin 7))), add_zero]
  · exact Finset.sum_congr rfl fun k _ => congrArg₂ (· * ·) (feats_lo _ k _) (wide_lo w k (x 1) _)
  · intro k _
    exact (congrArg₂ (· * ·) (feats_hi _ k _) rfl).trans (zero_mul _)

open Cert.Reference9Ideal.Read in
/-- A block's rows of the network's output. -/
theorem rows_eq (i : Fin 16) (a0 : FVec Ideal S33x64 .f32) (a1 : FVec Ideal S64 .f32) (a2 : FVec Ideal S64x64 .f32) (a3 : FVec Ideal S64 .f32) (a4 : FVec Ideal S64x64 .f32)
    (a5 a6 : FVec Ideal S64 .f32) (a7 : FVec Ideal S64x1024 .f32) :
    k0_pay2 (F := Ideal) (zrows i) (row a6) (wide a0) (row a1) a2 (row a3) a4 (row a5) a7
      = fun x => val_main_v44 (F := Ideal) a0 a1 a2 a3 a4 a5 a6 a7 (ix2 (pos i (x 0)) (x 1)) := by
  have e : shapeCast S40x64 (wide a0) shapeCasts_S40x64_S40x64 = wide a0 := by
    funext x; pointwise []
  unfold k0_pay2
  dsimp only
  rw [e, first_sum]
  funext x
  pointwise [row, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44]

open Cert.Reference9Ideal.Read in
/-- The first column of a block's features is the time column. -/
theorem tcol (i : Fin 16) : k0_pay3 (F := Ideal) (zrows i) = fun x : S256x1.Idx => val_main_v1 (F := Ideal) (ix2 (pos i (x 0)) 0 : S4096x1.Idx) := by
  funext x
  have h1 : (x 1).val < 1 := (x 1).isLt
  have e : (x 1).val = 0 := by omega
  pointwise [k0_pay3, k0_pay1, zrows, feats, e]
  done

open Cert.Reference9Ideal.Read in
/-- A block's rows of the decaying window. -/
theorem window (i : Fin 16) : k0_pay5 (F := Ideal) (k0_pay3 (zrows i)) (k0_pay4 (F := Ideal)) (val_main_v48 (F := Ideal))
      = fun x => val_main_v54 (F := Ideal) (ix2 (pos i (x 0)) (x 1)) := by
  rw [tcol]
  funext x
  pointwise [k0_pay5, k0_pay4, val_main_v47, val_main_v49, val_main_v50, val_main_v51, val_main_v52, val_main_v53, val_main_v54, val_main_cst_6]
  rw [zero_sub]

/-- The test for the sequence's first row as a bit. -/
theorem row_bit : ∀ (i : Fin 16) (r : Fin 256), IntOp.cmpi CmpIPredicate.eq (IntOp.addi (BitVec.ofNat 32 r.val) (Scalar.muli (BitVec.ofNat 32 i.val) 256#32)) 0#32
    = if i.val * 256 + r.val < 1 then 1#1 else 0#1 := by decide +kernel

/-- The test for the sequence's first row selects there and nowhere else. -/
theorem row_test (i : Fin 16) (r : Fin 256) (a b : EReal) :
    Scalar.select (IntOp.cmpi CmpIPredicate.eq (IntOp.addi (BitVec.ofNat 32 r.val) (Scalar.muli (BitVec.ofNat 32 i.val) 256#32)) 0#32) a b
      = if i.val * 256 + r.val < 1 then a else b := by
  rw [row_bit]
  split <;> rfl

open Cert.Reference9Ideal.Read in
/-- A block's rows of the forward filter. -/
theorem fwd (i : Fin 16) (a0 : FVec Ideal S33x64 .f32) (a1 : FVec Ideal S64 .f32) (a2 : FVec Ideal S64x64 .f32) (a3 : FVec Ideal S64 .f32) (a4 : FVec Ideal S64x64 .f32)
    (a5 a6 : FVec Ideal S64 .f32) (a7 : FVec Ideal S64x1024 .f32) (v34 v35 : FVec Ideal S256x1 .f32) (v37 : FVec Ideal S1x512 .f32)
    (hw : k0_pay5 (F := Ideal) v34 v35 v37 = fun x => val_main_v54 (F := Ideal) (ix2 (pos i (x 0)) (x 1))) :
    k0_pay6 (F := Ideal) (fun x => val_main_v44 (F := Ideal) a0 a1 a2 a3 a4 a5 a6 a7 (ix2 (pos i (x 0)) (x 1))) v34 v35 v37
      = fun x => val_main_v56 (F := Ideal) a0 a1 a2 a3 a4 a5 a6 a7 (ix2 (pos i (x 0)) (x 1)) := by
  unfold k0_pay6
  dsimp only
  rw [hw]
  funext x
  pointwise [val_main_v55, val_main_v56]

open Cert.Reference9Ideal.Read in
/-- A block's rows of the backward filter. -/
theorem bwd (i : Fin 16) (a0 : FVec Ideal S33x64 .f32) (a1 : FVec Ideal S64 .f32) (a2 : FVec Ideal S64x64 .f32) (a3 : FVec Ideal S64 .f32) (a4 : FVec Ideal S64x64 .f32)
    (a5 a6 : FVec Ideal S64 .f32) (a7 : FVec Ideal S64x1024 .f32) (v34 v35 : FVec Ideal S256x1 .f32) (v37 : FVec Ideal S1x512 .f32)
    (hw : k0_pay5 (F := Ideal) v34 v35 v37 = fun x => val_main_v54 (F := Ideal) (ix2 (pos i (x 0)) (x 1))) :
    k0_pay7 (F := Ideal) (BitVec.ofNat 32 i.val) (fun x => val_main_v44 (F := Ideal) a0 a1 a2 a3 a4 a5 a6 a7 (ix2 (pos i (x 0)) (x 1))) v34 v35 v37
      = fun x => val_main_v61 (F := Ideal) a0 a1 a2 a3 a4 a5 a6 a7 (ix2 (pos i (x 0)) (x 1)) := by
  unfold k0_pay7
  dsimp only
  rw [hw]
  funext x
  pointwise [val_main_v57, val_main_v58, val_main_v59, val_main_v60, val_main_v61, val_main_cst_7]
  refine (row_test i (x 0) _ _).trans ?_
  split
  · rfl
  · have e : (⟨1 + (i.val * 256 + (x 0).val - 1), by omega⟩ : Fin 4096) = pos i (x 0) := Fin.ext (by simp only; omega)
    simp only [e]

end Cert.Kernel9Ideal.Whole

end
-- ==== Proof.HyTaps.lean ====
/-
  The call that builds the Hyena filters (`hy_filter_taps`) is the reference's three arrays.
-/
module

public import proofs.«01_k».proof.Defs
public import proofs.«01_k».proof.Proof.Gen.Kernel9Ideal.Value
public import proofs.«01_k».proof.Proof.Gen.Reference9Ideal.Read
public import proofs.«01_k».proof.Proof.HyOps
public import proofs.«01_k».proof.Proof.HyRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.Whole

open Cert.Kernel9Ideal Cert.Kernel9Ideal.Gen

variable (m : (ℓ : Loc nD τ sig) → Buf (Elt Ideal) ℓ)

/-- The index maps of all the windows, in the point's number. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0, 0] ∧ win0_11.index t = ![t.val, 0, 0] ∧ win0_12.index t = ![0, 0] :=
  (by decide +kernel : ∀ t : Fin grid0.N, _)

/-- The number of point `t`. -/
abbrev num (t : Fin cfg0.N) : Fin 16 := ⟨t.val, t.isLt⟩

/-- The block coordinate the body is given is the point's number. -/
theorem coord : ∀ t : Fin cfg0.N, (grid0.coords t 0).val = t.val := (by decide +kernel : ∀ t : Fin grid0.N, _)

/-- Point `t` reads its rows of the features. -/
theorem blk0 (c : Dev nD) (t : Fin cfg0.N) : iblk m c 0 t = zrows (num t) := by
  funext x
  refine (congrFun (hostZ m c) (((cfg0.win 0).blk t).view.emb x)).trans ?_
  refine congrArg feats ?_
  blk_ext [idx t]

/-- Every point reads the first weights. -/
theorem blk1 (c : Dev nD) (t : Fin cfg0.N) : iblk m c 1 t = wide (m ((c : Thread nD τ).loc main_arg0)) := by
  funext x
  refine (congrFun (hostW m c) (((cfg0.win 1).blk t).view.emb x)).trans ?_
  refine congrArg (wide _) ?_
  blk_ext [idx t]

/-- A vector of sixty-four with a leading axis reads the vector at its last coordinate. -/
theorem row_cast (b : FVec Ideal S64 .f32) : shapeCast S1x64 b shapeCasts_S64_S1x64 = row b := by
  funext i
  have h0 : (i 0).val < 1 := (i 0).isLt
  refine shapeCast_apply b shapeCasts_S64_S1x64 i (ix1 (i 1) : S64.Idx) ?_
  rw [Shape.rowMajor_val_one, Shape.rowMajor_val_two]
  show (i 1).val = (i 0).val * 64 + (i 1).val
  omega

/-- Every point reads the first bias. -/
theorem blk2 (c : Dev nD) (t : Fin cfg0.N) : iblk m c 2 t = row (m ((c : Thread nD τ).loc main_arg1)) := by
  funext x
  refine (congrFun (hostB1 m c) (((cfg0.win 2).blk t).view.emb x)).trans ?_
  rw [row_cast]
  refine congrArg (row (m ((c : Thread nD τ).loc main_arg1))) ?_
  blk_ext [idx t]

/-- Every point reads the second bias. -/
theorem blk4 (c : Dev nD) (t : Fin cfg0.N) : iblk m c 4 t = row (m ((c : Thread nD τ).loc main_arg3)) := by
  funext x
  refine (congrFun (hostB2 m c) (((cfg0.win 4).blk t).view.emb x)).trans ?_
  rw [row_cast]
  refine congrArg (row (m ((c : Thread nD τ).loc main_arg3))) ?_
  blk_ext [idx t]

/-- Every point reads the third bias. -/
theorem blk6 (c : Dev nD) (t : Fin cfg0.N) : iblk m c 6 t = row (m ((c : Thread nD τ).loc main_arg5)) := by
  funext x
  refine (congrFun (hostB3 m c) (((cfg0.win 6).blk t).view.emb x)).trans ?_
  rw [row_cast]
  refine congrArg (row (m ((c : Thread nD τ).loc main_arg5))) ?_
  blk_ext [idx t]

/-- Every point reads the frequencies. -/
theorem blk7 (c : Dev nD) (t : Fin cfg0.N) : iblk m c 7 t = row (m ((c : Thread nD τ).loc main_arg6)) := by
  funext x
  refine (congrFun (hostF m c) (((cfg0.win 7).blk t).view.emb x)).trans ?_
  rw [row_cast]
  refine congrArg (row (m ((c : Thread nD τ).loc main_arg6))) ?_
  blk_ext [idx t]

/-- Every point reads the second weights. -/
theorem blk3 (c : Dev nD) (t : Fin cfg0.N) : iblk m c 3 t = (m ((c : Thread nD τ).loc main_arg2) : FVec Ideal S64x64 .f32) := by
  funext x
  refine (congrFun (V_main_arg2 m c) (((cfg0.win 3).blk t).view.emb x)).trans ?_
  refine congrArg (m ((c : Thread nD τ).loc main_arg2) : FVec Ideal S64x64 .f32) ?_
  blk_ext [idx t]

/-- Every point reads the third weights. -/
theorem blk5 (c : Dev nD) (t : Fin cfg0.N) : iblk m c 5 t = (m ((c : Thread nD τ).loc main_arg4) : FVec Ideal S64x64 .f32) := by
  funext x
  refine (congrFun (V_main_arg4 m c) (((cfg0.win 5).blk t).view.emb x)).trans ?_
  refine congrArg (m ((c : Thread nD τ).loc main_arg4) : FVec Ideal S64x64 .f32) ?_
  blk_ext [idx t]

/-- Every point reads the last weights. -/
theorem blk8 (c : Dev nD) (t : Fin cfg0.N) : iblk m c 8 t = (m ((c : Thread nD τ).loc main_arg7) : FVec Ideal S64x1024 .f32) := by
  funext x
  refine (congrFun (V_main_arg7 m c) (((cfg0.win 8).blk t).view.emb x)).trans ?_
  refine congrArg (m ((c : Thread nD τ).loc main_arg7) : FVec Ideal S64x1024 .f32) ?_
  blk_ext [idx t]

/-- Every point reads the decay rates. -/
theorem blk9 (c : Dev nD) (t : Fin cfg0.N) : iblk m c 9 t = Cert.Reference9Ideal.Read.val_main_v48 (F := Ideal) := by
  funext x
  refine (congrFun (hostD m c) (((cfg0.win 9).blk t).view.emb x)).trans ?_
  refine congrArg (Cert.Reference9Ideal.Read.val_main_v48 (F := Ideal)) ?_
  blk_ext [idx t]

/-- The reference's network's output over the kernel's arguments. -/
abbrev net (c : Dev nD) : FVec Ideal Cert.Reference9Ideal.S4096x1024 .f32 :=
  Cert.Reference9Ideal.Read.val_main_v44 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The reference's forward filter over the kernel's arguments. -/
abbrev fw (c : Dev nD) : FVec Ideal Cert.Reference9Ideal.S4096x512 .f32 :=
  Cert.Reference9Ideal.Read.val_main_v56 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The reference's backward filter over the kernel's arguments. -/
abbrev bw (c : Dev nD) : FVec Ideal Cert.Reference9Ideal.S4096x512 .f32 :=
  Cert.Reference9Ideal.Read.val_main_v61 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The reference's first result over the kernel's arguments. -/
abbrev refFwd (c : Dev nD) : FVec Ideal S16x512x256 .f32 :=
  Cert.Reference9Ideal.Read.val_main_v63 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The reference's second result over the kernel's arguments. -/
abbrev refBwd (c : Dev nD) : FVec Ideal S16x512x256 .f32 :=
  Cert.Reference9Ideal.Read.val_main_v65 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The reference's third result over the kernel's arguments. -/
abbrev refNorm (c : Dev nD) : FVec Ideal S1x512 .f32 :=
  Cert.Reference9Ideal.Read.val_main_v70 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The rows of the network's output that point `t` computes. -/
abbrev netRows (c : Dev nD) (t : Fin cfg0.N) : FVec Ideal S256x1024 .f32 := fun x => net m c (ix2 (pos (num t) (x 0)) (x 1) : Cert.Reference9Ideal.S4096x1024.Idx)

/-- The time column of point `t`. -/
abbrev tim (t : Fin cfg0.N) : FVec Ideal S256x1 .f32 := k0_pay3 (F := Ideal) (zrows (num t))

/-- The reference's decay rates. -/
abbrev rates : FVec Ideal S1x512 .f32 := Cert.Reference9Ideal.Read.val_main_v48 (F := Ideal)

/-- Point `t` computes its rows of the network's output. -/
theorem net_rows (c : Dev nD) (t : Fin cfg0.N) :
    k0_pay2 (F := Ideal) (iblk m c 0 t) (iblk m c 7 t) (iblk m c 1 t) (iblk m c 2 t) (iblk m c 3 t) (iblk m c 4 t) (iblk m c 5 t) (iblk m c 6 t) (iblk m c 8 t)
      = netRows m c t := by
  rw [blk0, blk1, blk2, blk3, blk4, blk5, blk6, blk7, blk8]
  exact rows_eq (num t) _ _ _ _ _ _ _ _

/-- What every point stores in the first result. -/
theorem stored10 (c : Dev nD) (t : Fin cfg0.N) : (outsAt0 m c t.val t.isLt).1
    = k0_pay8 (F := Ideal) (netRows m c t) (tim t) (k0_pay4 (F := Ideal)) rates := by
  by_cases h0 : t.val % 16 = 0
  · rw [outsAt0_A m c t h0]
    frame_out
    rw [net_rows, blk0, blk9]
  · rw [outsAt0_B m c t h0]
    frame_out
    rw [net_rows, blk0, blk9]

/-- What every point stores in the second result. -/
theorem stored11 (c : Dev nD) (t : Fin cfg0.N) : (outsAt0 m c t.val t.isLt).2.1
    = k0_pay9 (F := Ideal) (BitVec.ofNat 32 (num t).val) (netRows m c t) (tim t) (k0_pay4 (F := Ideal)) rates := by
  by_cases h0 : t.val % 16 = 0
  · rw [outsAt0_A m c t h0]
    frame_out
    rw [net_rows, blk0, blk9, coord]
  · rw [outsAt0_B m c t h0]
    frame_out
    rw [net_rows, blk0, blk9, coord]

/-- The first point's sums. -/
theorem sums_first (c : Dev nD) (t : Fin cfg0.N) (h0 : t.val % 16 = 0) : (outsAt0 m c t.val t.isLt).2.2
    = k0_pay11 (F := Ideal) (BitVec.ofNat 32 (num t).val) (netRows m c t) (tim t) (k0_pay4 (F := Ideal)) rates (k0_pay10 (F := Ideal)) := by
  rw [outsAt0_A m c t h0]
  frame_out
  rw [net_rows, blk0, blk9, coord]

/-- The other points go on from the sums the point before left. -/
theorem sums_next (c : Dev nD) (t : Fin cfg0.N) (h0 : ¬ t.val % 16 = 0) (hp : t.val - 1 < cfg0.N) : (outsAt0 m c t.val t.isLt).2.2
    = k0_pay11 (F := Ideal) (BitVec.ofNat 32 (num t).val) (netRows m c t) (tim t) (k0_pay4 (F := Ideal)) rates (outsAt0 m c (t.val - 1) hp).2.2 := by
  rw [outsAt0_B m c t h0]
  frame_out
  rw [net_rows, blk0, blk9, coord]

/-- The sums of the reference's absolute values, position by position. -/
abbrev tot (c : Dev nD) : FVec Ideal Cert.Reference9Ideal.S4096x512 .f32 :=
  Cert.Reference9Ideal.Read.val_main_v68 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The place in the first result of an element of point `t`'s block. -/
theorem emb10 (t : Fin cfg0.N) (y : S1x512x256.Idx) : ((cfg0.win 10).blk t).view.emb y = (ix3 (num t) (y 1) (y 2) : S16x512x256.Idx) := by
  blk_ext [idx t]

/-- The place in the second result of an element of point `t`'s block. -/
theorem emb11 (t : Fin cfg0.N) (y : S1x512x256.Idx) : ((cfg0.win 11).blk t).view.emb y = (ix3 (num t) (y 1) (y 2) : S16x512x256.Idx) := by
  blk_ext [idx t]

/-- The place in the third result of an element of its one block. -/
theorem emb12 (t : Fin cfg0.N) (y : S1x512.Idx) : ((cfg0.win 12).blk t).view.emb y = y := by
  blk_ext [idx t]

open Cert.Reference9Ideal.Read in
/-- The kernel's first result array is the reference's. -/
theorem final10 (c : Dev nD) : (dats m 0 c).arrAt 10 cfg0.N = refFwd m c := by
  refine (dats m 0 c).arrAt_eq_of_covers 10 _ (by decide +kernel) fun t hf y => ?_
  blk_simp
  rw [after0_10, emb10, stored10]
  unfold k0_pay8
  dsimp only
  rw [fwd (num t) _ _ _ _ _ _ _ _ (tim t) _ _ (window (num t))]
  pointwise [refFwd, val_main_v62, val_main_v63]

open Cert.Reference9Ideal.Read in
/-- The kernel's second result array is the reference's. -/
theorem final11 (c : Dev nD) : (dats m 0 c).arrAt 11 cfg0.N = refBwd m c := by
  refine (dats m 0 c).arrAt_eq_of_covers 11 _ (by decide +kernel) fun t hf y => ?_
  blk_simp
  rw [after0_11, emb11, stored11]
  unfold k0_pay9
  dsimp only
  rw [bwd (num t) _ _ _ _ _ _ _ _ (tim t) _ _ (window (num t))]
  pointwise [refBwd, val_main_v64, val_main_v65]

open Cert.Reference9Ideal.Read in
/-- What a point adds to the sums. -/
theorem step_eq (c : Dev nD) (t : Fin cfg0.N) (a : FVec Ideal S1x512 .f32) (y : S1x512.Idx) :
    k0_pay11 (F := Ideal) (BitVec.ofNat 32 (num t).val) (netRows m c t) (tim t) (k0_pay4 (F := Ideal)) rates a y
      = a y + ∑ r : Fin 256, tot m c (ix2 (pos (num t) r) (y 1)) := by
  unfold k0_pay11
  dsimp only
  rw [fwd (num t) _ _ _ _ _ _ _ _ (tim t) _ _ (window (num t)), bwd (num t) _ _ _ _ _ _ _ _ (tim t) _ _ (window (num t))]
  pointwise [tot, val_main_v66, val_main_v67, val_main_v68]

/-- The sum of the absolute values over block `n`, zero past the last. -/
def part (c : Dev nD) (x : Fin 512) (n : ℕ) : EReal := if h : n < 16 then ∑ r : Fin 256, tot m c (ix2 (pos ⟨n, h⟩ r) x) else 0

/-- The sums after point `n` run over the blocks up to `n`. -/
theorem sums (c : Dev nD) (y : S1x512.Idx) : ∀ (n : ℕ) (h : n < cfg0.N), (outsAt0 m c n h).2.2 y = ∑ i ∈ Finset.range (n + 1), part m c (y 1) i
  | 0, h => by
    rw [sums_first m c ⟨0, h⟩ rfl, step_eq, Finset.sum_range_one]
    unfold part
    rw [dif_pos (by omega)]
    refine Eq.trans (congrArg₂ (· + ·) ?_ rfl) (zero_add _)
    pointwise [k0_pay10]
  | n + 1, h => by
    have hn : n + 1 < 16 := h
    rw [sums_next m c ⟨n + 1, h⟩ (by simp only; omega) (Nat.lt_of_succ_lt h), step_eq, Finset.sum_range_succ]
    refine congrArg₂ (· + ·) (sums c y n (Nat.lt_of_succ_lt h)) ?_
    unfold part
    rw [dif_pos hn]

open Cert.Reference9Ideal.Read in
/-- The blocks' sums together are the reference's sum over all the positions. -/
theorem norm_eq (c : Dev nD) (y : S1x512.Idx) : ∑ i ∈ Finset.range 16, part m c (y 1) i = refNorm m c y := by
  pointwise [refNorm, val_main_v69, val_main_v70, val_main_cst_8]
  rw [Finset.sum_range, Fin.sum_univ_tiles 16 256 rfl]
  refine Finset.sum_congr rfl fun i _ => ?_
  unfold part
  rw [dif_pos i.isLt]

/-- The kernel's third result array is the reference's. -/
theorem final12 (c : Dev nD) : (dats m 0 c).arrAt 12 cfg0.N = refNorm m c := by
  refine (dats m 0 c).arrAt_eq_of_covers 12 _ (by decide +kernel) fun t hf y => ?_
  have h3 : t.val = 15 := (by decide +kernel : ∀ t : Fin cfg0.N, (cfg0.win 12).flush t = true → t.val = 15) t hf
  blk_simp
  rw [after0_12, emb12, sums m c y t.val t.isLt, h3]
  exact norm_eq m c y

end Cert.Kernel9Ideal.Whole

namespace Cert.Proof.HyTaps

/-- The call and the reference end with the same three result arrays, and both leave their arguments as they were. -/
theorem algebraic : Cert.algebraic_Kernel9Ideal_Reference9Ideal := by
  intro m ρ m' ρ' _ hag
  refine ⟨fun c => Cert.Kernel9Ideal.Whole.refFwd m c, fun c => Cert.Kernel9Ideal.Whole.refBwd m c, fun c => Cert.Kernel9Ideal.Whole.refNorm m c, ?_, ?_⟩
  · refine (θ_run Cert.Kernel9Ideal.defs _ _).mono (fun r h c => ?_) (Cert.Kernel9Ideal.Gen.run_main m ρ)
    exact ⟨(Cert.Kernel9Ideal.Value.post10 m r h c).trans (Cert.Kernel9Ideal.Whole.final10 m c),
      (Cert.Kernel9Ideal.Value.post11 m r h c).trans (Cert.Kernel9Ideal.Whole.final11 m c),
      (Cert.Kernel9Ideal.Value.post12 m r h c).trans (Cert.Kernel9Ideal.Whole.final12 m c),
      Cert.Kernel9Ideal.Value.kept_main_arg0 m r h c,
      Cert.Kernel9Ideal.Value.kept_main_arg1 m r h c,
      Cert.Kernel9Ideal.Value.kept_main_arg2 m r h c,
      Cert.Kernel9Ideal.Value.kept_main_arg3 m r h c,
      Cert.Kernel9Ideal.Value.kept_main_arg4 m r h c,
      Cert.Kernel9Ideal.Value.kept_main_arg5 m r h c,
      Cert.Kernel9Ideal.Value.kept_main_arg6 m r h c,
      Cert.Kernel9Ideal.Value.kept_main_arg7 m r h c⟩
  · refine (θ_run Cert.Reference9Ideal.defs _ _).mono (fun r h c => ⟨(h c).1.trans ?_, (h c).2.1.trans ?_, (h c).2.2.1.trans ?_, (h c).2.2.2⟩)
      (Cert.Reference9Ideal.Value.run (F := Ideal) m' ρ')
    · obtain ⟨e0, e1, e2, e3, e4, e5, e6, e7⟩ := hag c
      rw [Cert.Reference9Ideal.Read.val_main_v63_eq, e0, e1, e2, e3, e4, e5, e6, e7]
    · obtain ⟨e0, e1, e2, e3, e4, e5, e6, e7⟩ := hag c
      rw [Cert.Reference9Ideal.Read.val_main_v65_eq, e0, e1, e2, e3, e4, e5, e6, e7]
    · obtain ⟨e0, e1, e2, e3, e4, e5, e6, e7⟩ := hag c
      rw [Cert.Reference9Ideal.Read.val_main_v70_eq, e0, e1, e2, e3, e4, e5, e6, e7]

end Cert.Proof.HyTaps

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.On_state_rows
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.ReferenceIdeal.Step
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel7.Frame
public import proofs.«01_k».proof.Proof.Gen.Kernel7Ideal.Frame
public import proofs.«01_k».proof.Proof.Gen.Reference7Ideal
public import proofs.«01_k».proof.Proof.Gen.Kernel8.Frame
public import proofs.«01_k».proof.Proof.Gen.Kernel8Ideal.Frame
public import proofs.«01_k».proof.Proof.Gen.Reference8Ideal
public import proofs.«01_k».proof.Proof.Gen.Kernel9.Frame
public import proofs.«01_k».proof.Proof.Gen.Kernel9Ideal.Frame
public import proofs.«01_k».proof.Proof.Gen.Reference9Ideal
public import proofs.«01_k».proof.Proof.Frames
public import proofs.«01_k».proof.Proof.Scan
public import proofs.«01_k».proof.Proof.Mlp
public import proofs.«01_k».proof.Proof.NormMm
public import proofs.«01_k».proof.Proof.Merge
public import proofs.«01_k».proof.Proof.MlpPlain
public import proofs.«01_k».proof.Proof.S5Out
public import proofs.«01_k».proof.Proof.AdaMod
public import proofs.«01_k».proof.Proof.HyPre
public import proofs.«01_k».proof.Proof.HyTaps
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.On_state_rows.Gen.facts,
  fun m ρ _ => Cert.Kernel.Gen.frame m ρ, fun m ρ _ => Cert.KernelIdeal.Gen.frame m ρ, Frames.reference,
  fun m ρ _ => Cert.Kernel2.Gen.frame m ρ, fun m ρ _ => Cert.Kernel2Ideal.Gen.frame m ρ, Frames.reference2,
  fun m ρ _ => Cert.Kernel3.Gen.frame m ρ, fun m ρ _ => Cert.Kernel3Ideal.Gen.frame m ρ, Frames.reference3,
  fun m ρ _ => Cert.Kernel4.Gen.frame m ρ, fun m ρ _ => Cert.Kernel4Ideal.Gen.frame m ρ, Frames.reference4,
  fun m ρ _ => Cert.Kernel5.Gen.frame m ρ, fun m ρ _ => Cert.Kernel5Ideal.Gen.frame m ρ, Frames.reference5,
  fun m ρ _ => Cert.Kernel6.Gen.frame m ρ, fun m ρ _ => Cert.Kernel6Ideal.Gen.frame m ρ, Frames.reference6,
  fun m ρ _ => Cert.Kernel7.Gen.frame m ρ, fun m ρ _ => Cert.Kernel7Ideal.Gen.frame m ρ, Frames.reference7,
  fun m ρ _ => Cert.Kernel8.Gen.frame m ρ, fun m ρ _ => Cert.Kernel8Ideal.Gen.frame m ρ, Frames.reference8,
  fun m ρ _ => Cert.Kernel9.Gen.frame m ρ, fun m ρ _ => Cert.Kernel9Ideal.Gen.frame m ρ, Frames.reference9,
  trivial, Scan.algebraic, trivial, Mlp.algebraic, trivial, NormMm.algebraic, trivial, Merge.algebraic, trivial, MlpPlain.algebraic, trivial, S5Out.algebraic, trivial, AdaMod.algebraic, trivial, HyPre.algebraic, trivial, HyTaps.algebraic⟩

end Cert.Proof

end
